-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x12288 : Shape := ⟨3, ![1, 512, 12288]⟩
abbrev S6144x28672 : Shape := ⟨2, ![6144, 28672]⟩
abbrev S96x28672 : Shape := ⟨2, ![96, 28672]⟩
abbrev S512x12288 : Shape := ⟨2, ![512, 12288]⟩
abbrev S512x28672 : Shape := ⟨2, ![512, 28672]⟩
abbrev S512x224 : Shape := ⟨2, ![512, 224]⟩
abbrev S2048x256 : Shape := ⟨2, ![2048, 256]⟩
abbrev S32x256 : Shape := ⟨2, ![32, 256]⟩
abbrev S512x256 : Shape := ⟨2, ![512, 256]⟩
abbrev S512x4096 : Shape := ⟨2, ![512, 4096]⟩
abbrev S2048x1x256 : Shape := ⟨3, ![2048, 1, 256]⟩
abbrev S2048x2x256 : Shape := ⟨3, ![2048, 2, 256]⟩
abbrev S4096x256 : Shape := ⟨2, ![4096, 256]⟩
abbrev S32x128x256 : Shape := ⟨3, ![32, 128, 256]⟩
abbrev S32x1x256 : Shape := ⟨3, ![32, 1, 256]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S1x512x12288, .bf16⟩
  | .hbm, ⟨1, _⟩ => ⟨S6144x28672, .i8⟩
  | .hbm, ⟨2, _⟩ => ⟨S96x28672, .bf16⟩
  | .hbm, ⟨3, _⟩ => ⟨S6144x28672, .i8⟩
  | .hbm, ⟨4, _⟩ => ⟨S96x28672, .bf16⟩
  | .hbm, ⟨5, _⟩ => ⟨S512x12288, .bf16⟩
  | .hbm, ⟨6, _⟩ => ⟨S512x28672, .fp8e4m3⟩
  | .hbm, ⟨7, _⟩ => ⟨S512x224, .f32⟩
  | .local _ .vmem, ⟨0, _⟩ => ⟨S512x12288, .bf16⟩
  | .local _ .vmem, ⟨1, _⟩ => ⟨S2048x256, .i8⟩
  | .local _ .vmem, ⟨2, _⟩ => ⟨S2048x256, .i8⟩
  | .local _ .vmem, ⟨3, _⟩ => ⟨S32x256, .bf16⟩
  | .local _ .vmem, ⟨4, _⟩ => ⟨S32x256, .bf16⟩
  | .local _ .vmem, ⟨5, _⟩ => ⟨S2048x256, .i8⟩
  | .local _ .vmem, ⟨6, _⟩ => ⟨S2048x256, .i8⟩
  | .local _ .vmem, ⟨7, _⟩ => ⟨S32x256, .bf16⟩
  | .local _ .vmem, ⟨8, _⟩ => ⟨S32x256, .bf16⟩
  | .local _ .vmem, ⟨9, _⟩ => ⟨S512x256, .fp8e4m3⟩
  | .local _ .vmem, ⟨10, _⟩ => ⟨S512x256, .fp8e4m3⟩
  | .local _ .vmem, ⟨11, _⟩ => ⟨S512x224, .f32⟩
  | .local _ .vmem, ⟨12, _⟩ => ⟨S512x256, .f32⟩
  | .local _ .vmem, ⟨13, _⟩ => ⟨S512x256, .f32⟩
  | _, _ => ⟨S1x512x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![112, 3], ![false, false]⟩

def k0_mult1 (i : grid0.Coords) : BitVec 32 :=
  let arg1 : BitVec 32 := BitVec.ofNat 32 (i 1).val
  let c4096_i32 : BitVec 32 := 4096#32
  let v3 : BitVec 32 := Scalar.muli arg1 c4096_i32
  v3
def k0_off1 (i : grid0.Coords) : Fin 2 → Nat :=
  let c0 : Index := 0#32
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  ![0, v5.toNat]
def k0_cond2 (i : grid0.Coords) : BitVec 1 :=
  let arg1 : BitVec 32 := BitVec.ofNat 32 (i 1).val
  let c2_i32 : BitVec 32 := 2#32
  let v68 : BitVec 1 := Scalar.cmpi .eq arg1 c2_i32
  let v69 : BitVec 32 := Scalar.extui v68
  let c0_i32_25 : BitVec 32 := 0#32
  let v70 : BitVec 1 := Scalar.cmpi .ne v69 c0_i32_25
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S1x512x12288 : Shape := ⟨3, ![1, 512, 12288]⟩
abbrev S6144x28672 : Shape := ⟨2, ![6144, 28672]⟩
abbrev S96x28672 : Shape := ⟨2, ![96, 28672]⟩
abbrev S1x512x6144 : Shape := ⟨3, ![1, 512, 6144]⟩
abbrev S96x64x28672 : Shape := ⟨3, ![96, 64, 28672]⟩
abbrev S_ : Shape := ⟨0, ![]⟩
abbrev S1x512x28672 : Shape := ⟨3, ![1, 512, 28672]⟩
abbrev S1x512x224x128 : Shape := ⟨4, ![1, 512, 224, 128]⟩
abbrev S1x512x224 : Shape := ⟨3, ![1, 512, 224]⟩
abbrev S252 : Shape := ⟨1, ![252]⟩
abbrev S1x512x224x1 : Shape := ⟨4, ![1, 512, 224, 1]⟩
abbrev S1x1x1x252 : Shape := ⟨4, ![1, 1, 1, 252]⟩
abbrev S1x512x224x252 : Shape := ⟨4, ![1, 512, 224, 252]⟩
abbrev S512x28672 : Shape := ⟨2, ![512, 28672]⟩
abbrev S512x224 : Shape := ⟨2, ![512, 224]⟩

abbrev nBuf : Space → Nat
  | .hbm => 115
  | .vmem => 0
  | .smem => 0
  | _ => 0

abbrev bufTy : (tb : Table) → Fin (tcTables nBuf tb) → BufTy
  | .hbm, ⟨0, _⟩ => ⟨S1x512x12288, .bf16⟩
  | .hbm, ⟨1, _⟩ => ⟨S6144x28672, .i8⟩
  | .hbm, ⟨2, _⟩ => ⟨S96x28672, .bf16⟩
  | .hbm, ⟨3, _⟩ => ⟨S6144x28672, .i8⟩
  | .hbm, ⟨4, _⟩ => ⟨S96x28672, .bf16⟩
  | .hbm, ⟨5, _⟩ => ⟨S1x512x6144, .bf16⟩
  | .hbm, ⟨6, _⟩ => ⟨S1x512x6144, .bf16⟩
  | .hbm, ⟨7, _⟩ => ⟨S96x64x28672, .bf16⟩
  | .hbm, ⟨8, _⟩ => ⟨S6144x28672, .bf16⟩
  | .hbm, ⟨9, _⟩ => ⟨S6144x28672, .i32⟩
  | .hbm, ⟨10, _⟩ => ⟨S_, .i32⟩
  | .hbm, ⟨11, _⟩ => ⟨S6144x28672, .i32⟩
  | .hbm, ⟨12, _⟩ => ⟨S6144x28672, .i32⟩
  | .hbm, ⟨13, _⟩ => ⟨S6144x28672, .bf16⟩
  | .hbm, ⟨14, _⟩ => ⟨S_, .bf16⟩
  | .hbm, ⟨15, _⟩ => ⟨S6144x28672, .bf16⟩
  | .hbm, ⟨16, _⟩ => ⟨S6144x28672, .bf16⟩
  | .hbm, ⟨17, _⟩ => ⟨S6144x28672, .bf16⟩
  | .hbm, ⟨18, _⟩ => ⟨S_, .i32⟩
  | .hbm, ⟨19, _⟩ => ⟨S6144x28672, .i32⟩
  | .hbm, ⟨20, _⟩ => ⟨S6144x28672, .i32⟩
  | .hbm, ⟨21, _⟩ => ⟨S6144x28672, .bf16⟩
  | .hbm, ⟨22, _⟩ => ⟨S_, .bf16⟩
  | .hbm, ⟨23, _⟩ => ⟨S6144x28672, .bf16⟩
  | .hbm, ⟨24, _⟩ => ⟨S6144x28672, .bf16⟩
  | .hbm, ⟨25, _⟩ => ⟨S6144x28672, .bf16⟩
  | .hbm, ⟨26, _⟩ => ⟨S1x512x28672, .f32⟩
  | .hbm, ⟨27, _⟩ => ⟨S1x512x28672, .f32⟩
  | .hbm, ⟨28, _⟩ => ⟨S1x512x28672, .f32⟩
  | .hbm, ⟨29, _⟩ => ⟨S96x64x28672, .bf16⟩
  | .hbm, ⟨30, _⟩ => ⟨S6144x28672, .bf16⟩
  | .hbm, ⟨31, _⟩ => ⟨S6144x28672, .i32⟩
  | .hbm, ⟨32, _⟩ => ⟨S_, .i32⟩
  | .hbm, ⟨33, _⟩ => ⟨S6144x28672, .i32⟩
  | .hbm, ⟨34, _⟩ => ⟨S6144x28672, .i32⟩
  | .hbm, ⟨35, _⟩ => ⟨S6144x28672, .bf16⟩
  | .hbm, ⟨36, _⟩ => ⟨S_, .bf16⟩
  | .hbm, ⟨37, _⟩ => ⟨S6144x28672, .bf16⟩
  | .hbm, ⟨38, _⟩ => ⟨S6144x28672, .bf16⟩
  | .hbm, ⟨39, _⟩ => ⟨S6144x28672, .bf16⟩
  | .hbm, ⟨40, _⟩ => ⟨S_, .i32⟩
  | .hbm, ⟨41, _⟩ => ⟨S6144x28672, .i32⟩
  | .hbm, ⟨42, _⟩ => ⟨S6144x28672, .i32⟩
  | .hbm, ⟨43, _⟩ => ⟨S6144x28672, .bf16⟩
  | .hbm, ⟨44, _⟩ => ⟨S_, .bf16⟩
  | .hbm, ⟨45, _⟩ => ⟨S6144x28672, .bf16⟩
  | .hbm, ⟨46, _⟩ => ⟨S6144x28672, .bf16⟩
  | .hbm, ⟨47, _⟩ => ⟨S6144x28672, .bf16⟩
  | .hbm, ⟨48, _⟩ => ⟨S1x512x28672, .f32⟩
  | .hbm, ⟨49, _⟩ => ⟨S1x512x28672, .f32⟩
  | .hbm, ⟨50, _⟩ => ⟨S1x512x28672, .f32⟩
  | .hbm, ⟨51, _⟩ => ⟨S1x512x28672, .f32⟩
  | .hbm, ⟨52, _⟩ => ⟨S1x512x28672, .f32⟩
  | .hbm, ⟨53, _⟩ => ⟨S_, .f32⟩
  | .hbm, ⟨54, _⟩ => ⟨S1x512x28672, .f32⟩
  | .hbm, ⟨55, _⟩ => ⟨S1x512x28672, .f32⟩
  | .hbm, ⟨56, _⟩ => ⟨S_, .f32⟩
  | .hbm, ⟨57, _⟩ => ⟨S1x512x28672, .f32⟩
  | .hbm, ⟨58, _⟩ => ⟨S1x512x28672, .f32⟩
  | .hbm, ⟨59, _⟩ => ⟨S1x512x28672, .f32⟩
  | .hbm, ⟨60, _⟩ => ⟨S1x512x28672, .f32⟩
  | .hbm, ⟨61, _⟩ => ⟨S1x512x224x128, .f32⟩
  | .hbm, ⟨62, _⟩ => ⟨S1x512x224x128, .f32⟩
  | .hbm, ⟨63, _⟩ => ⟨S_, .f32⟩
  | .hbm, ⟨64, _⟩ => ⟨S1x512x224, .f32⟩
  | .hbm, ⟨65, _⟩ => ⟨S_, .f32⟩
  | .hbm, ⟨66, _⟩ => ⟨S1x512x224, .f32⟩
  | .hbm, ⟨67, _⟩ => ⟨S1x512x224, .f32⟩
  | .hbm, ⟨68, _⟩ => ⟨S252, .f32⟩
  | .hbm, ⟨69, _⟩ => ⟨S_, .f32⟩
  | .hbm, ⟨70, _⟩ => ⟨S252, .f32⟩
  | .hbm, ⟨71, _⟩ => ⟨S252, .f32⟩
  | .hbm, ⟨72, _⟩ => ⟨S_, .f32⟩
  | .hbm, ⟨73, _⟩ => ⟨S252, .f32⟩
  | .hbm, ⟨74, _⟩ => ⟨S252, .f32⟩
  | .hbm, ⟨75, _⟩ => ⟨S1x512x224x1, .f32⟩
  | .hbm, ⟨76, _⟩ => ⟨S1x1x1x252, .f32⟩
  | .hbm, ⟨77, _⟩ => ⟨S1x512x224x252, .f32⟩
  | .hbm, ⟨78, _⟩ => ⟨S1x512x224x252, .f32⟩
  | .hbm, ⟨79, _⟩ => ⟨S1x512x224x252, .i1⟩
  | .hbm, ⟨80, _⟩ => ⟨S_, .f32⟩
  | .hbm, ⟨81, _⟩ => ⟨S_, .f32⟩
  | .hbm, ⟨82, _⟩ => ⟨S1x512x224x252, .f32⟩
  | .hbm, ⟨83, _⟩ => ⟨S1x512x224x252, .f32⟩
  | .hbm, ⟨84, _⟩ => ⟨S1x512x224x252, .f32⟩
  | .hbm, ⟨85, _⟩ => ⟨S_, .f32⟩
  | .hbm, ⟨86, _⟩ => ⟨S1x512x224, .f32⟩
  | .hbm, ⟨87, _⟩ => ⟨S_, .f32⟩
  | .hbm, ⟨88, _⟩ => ⟨S1x512x224, .f32⟩
  | .hbm, ⟨89, _⟩ => ⟨S1x512x224, .i1⟩
  | .hbm, ⟨90, _⟩ => ⟨S_, .f32⟩
  | .hbm, ⟨91, _⟩ => ⟨S1x512x224, .f32⟩
  | .hbm, ⟨92, _⟩ => ⟨S1x512x224, .i1⟩
  | .hbm, ⟨93, _⟩ => ⟨S1x512x224, .i1⟩
  | .hbm, ⟨94, _⟩ => ⟨S_, .f32⟩
  | .hbm, ⟨95, _⟩ => ⟨S_, .f32⟩
  | .hbm, ⟨96, _⟩ => ⟨S1x512x224, .f32⟩
  | .hbm, ⟨97, _⟩ => ⟨S1x512x224, .f32⟩
  | .hbm, ⟨98, _⟩ => ⟨S_, .f32⟩
  | .hbm, ⟨99, _⟩ => ⟨S1x512x224, .f32⟩
  | .hbm, ⟨100, _⟩ => ⟨S1x512x224, .f32⟩
  | .hbm, ⟨101, _⟩ => ⟨S1x512x224x1, .f32⟩
  | .hbm, ⟨102, _⟩ => ⟨S1x512x224x128, .f32⟩
  | .hbm, ⟨103, _⟩ => ⟨S1x512x224x128, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S1x512x224x128, .f32⟩
  | .hbm, ⟨108, _⟩ => ⟨S1x512x224x128, .f32⟩
  | .hbm, ⟨109, _⟩ => ⟨S_, .f32⟩
  | .hbm, ⟨110, _⟩ => ⟨S1x512x224x128, .f32⟩
  | .hbm, ⟨111, _⟩ => ⟨S1x512x224x128, .f32⟩
  | .hbm, ⟨112, _⟩ => ⟨S1x512x224x128, .fp8e4m3⟩
  | .hbm, ⟨113, _⟩ => ⟨S512x28672, .fp8e4m3⟩
  | .hbm, ⟨114, _⟩ => ⟨S512x224, .f32⟩
  | _, _ => ⟨S1x512x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_cst_17 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩

abbrev nD : Nat := 1
abbrev τ : Topo := Topo.v7x

variable {F : FTy → Type} [FloatOps F]
-- ==== Proof.KRuns.lean ====
/- The names the kernel body's runs share: the branch conditions at a grid point, the staging memrefs, the scratch. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_0 : ∀ t : Fin cfg0.N, cond0_0 (grid0.coords t) ↔ t.val % 3 = 0 :=
  (fun t => by
    have ht : t.val < 336 := Nat.lt_of_lt_of_eq t.isLt N_0
    have e0 : (grid0.coords t 0).val = t.val / 3 % 112 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the points ≡ 2 (mod 3) — by arithmetic of the point. -/
theorem hcond0_1 : ∀ t : Fin cfg0.N, cond0_1 (grid0.coords t) ↔ t.val % 3 = 2 :=
  (fun t => by
    have ht : t.val < 336 := Nat.lt_of_lt_of_eq t.isLt N_0
    have e0 : (grid0.coords t 0).val = t.val / 3 % 112 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x224 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x256 .f32 := Memref.whole cc0_scratch0
abbrev scM0_1 : Memref sig .tc .vmem S512x256 .f32 := Memref.whole cc0_scratch1
/-- The scratch `arg9` the kernel carries between points, as a view: what it holds is stated through it. -/
abbrev VS0_0 : View sig .tc .vmem S512x256 .f32 := scM0_0.view
/-- The scratch `arg10` the kernel carries between points, as a view: what it holds is stated through it. -/
abbrev VS0_1 : View sig .tc .vmem S512x256 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body computes, as values of the blocks it reads -/

/-- The 4096 columns of the activation block the reduction block of grid point `i` reads. -/
def xwin (i : grid0.Coords) (x0 : Vec F S512x12288 .bf16) : Vec F S512x4096 .bf16 :=
  VecWindow.window x0 (k0_off1 i) S512x4096.size (k0_off1_inb i)

/-- The gate accumulator after a point that finds it at `a`. -/
def nextG (i : grid0.Coords) (x0 : Vec F S512x12288 .bf16) (x1 : Vec F S2048x256 .i8) (x2 : Vec F S32x256 .bf16) (a : Vec F S512x256 .f32) : Vec F S512x256 .f32 :=
  k0_pay26 (xwin i x0) a x1 x2

/-- The up accumulator after a point that finds it at `a`. -/
def nextU (i : grid0.Coords) (x0 : Vec F S512x12288 .bf16) (x3 : Vec F S2048x256 .i8) (x4 : Vec F S32x256 .bf16) (a : Vec F S512x256 .f32) : Vec F S512x256 .f32 :=
  k0_pay1 (k0_pay25 (xwin i x0)) a x3 x4

/-- The first 128 columns of an accumulator. -/
def halfL (a : Vec F S512x256 .f32) : Vec F S512x128 .f32 := VecWindow.window a ![0, 0] S512x128.size inb_S512x256_S512x128_0_0

/-- The last 128 columns of an accumulator. -/
def halfR (a : Vec F S512x256 .f32) : Vec F S512x128 .f32 := VecWindow.window a ![0, 128] S512x128.size inb_S512x256_S512x128_0_128

/-- A half of what a whole store has just put in an accumulator. -/
theorem readCov_half (v : View sig .tc .vmem S512x256 .f32) (w W : Vec F S512x256 .f32) (h : w = W) (off : Fin 2 → ℕ) (inb : ∀ a, off a + S512x128.size a ≤ S512x256.size a) :
    v.readCov [⟨Rect.unit (s := S512x256) ![0, 0] S512x256.size inb_S512x256_S512x256_0_0, w⟩] (Rect.unit (s := S512x256) off S512x128.size inb).toLoadRect
      = VecWindow.window W off S512x128.size inb := by
  subst h
  exact (View.readAt_unit v _ _ rfl inb).trans (congrArg (fun x : Vec F S512x256 .f32 => VecWindow.window x off S512x128.size inb) (View.read_writes_full v _ _ w []))

/-- The scale column of the first half, from the halves of the two accumulators. -/
def scaleL (g u : Vec F S512x128 .f32) : FVec F S512x1 .f32 :=
  k0_pay11 (k0_pay5 g u) (k0_pay8 (k0_pay5 g u) (k0_pay6 g u) (k0_pay7 g u) 23#32) (k0_pay9 (k0_pay5 g u) (k0_pay6 g u) (k0_pay7 g u) 23#32) 23#32

/-- The codes of the first half. -/
def codesL (g u : Vec F S512x128 .f32) : FVec F S512x128 .fp8e4m3 :=
  k0_pay12 (k0_pay4 g u) (k0_pay5 g u) (k0_pay8 (k0_pay5 g u) (k0_pay6 g u) (k0_pay7 g u) 23#32) (k0_pay9 (k0_pay5 g u) (k0_pay6 g u) (k0_pay7 g u) 23#32) 23#32

/-- The scale column of the second half. -/
def scaleR (g u : Vec F S512x128 .f32) : FVec F S512x1 .f32 :=
  k0_pay21 (k0_pay15 g u) (k0_pay18 (k0_pay15 g u) (k0_pay16 g u) (k0_pay17 g u)) (k0_pay19 (k0_pay15 g u) (k0_pay16 g u) (k0_pay17 g u))

/-- The codes of the second half. -/
def codesR (g u : Vec F S512x128 .f32) : FVec F S512x128 .fp8e4m3 :=
  k0_pay22 (k0_pay14 g u) (k0_pay15 g u) (k0_pay18 (k0_pay15 g u) (k0_pay16 g u) (k0_pay17 g u)) (k0_pay19 (k0_pay15 g u) (k0_pay16 g u) (k0_pay17 g u))

/-- The codes block after the two halves are stored over `d`, from the finished accumulators. -/
def codesPut (g u : Vec F S512x256 .f32) (d : Vec F S512x256 .fp8e4m3) : Vec F S512x256 .fp8e4m3 :=
  VecWindow.put (VecWindow.put d ![0, 0] S512x128.size (codesL (halfL g) (halfL u))) ![0, 128] S512x128.size (codesR (halfR g) (halfR u))

/-- The scale block after the two columns of this point are stored over `s`. -/
def scalesPut (i : grid0.Coords) (g u : Vec F S512x256 .f32) (s : Vec F S512x224 .f32) : Vec F S512x224 .f32 :=
  k0_pay2 (BitVec.ofNat 32 (i 0).val) (iota .tc S512x224 32 [1] iota_S512x224_d1_w32) (k0_pay13 (BitVec.ofNat 32 (i 0).val) (iota .tc S512x224 32 [1] iota_S512x224_d1_w32) (k0_pay3 s) (scaleL (halfL g) (halfL u))) (scaleR (halfR g) (halfR u))

end Cert.KernelIdeal.Hand

end
-- ==== Proof.KRunA.lean ====
module

public import proofs.«01_k».proof.Proof.KRuns

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a first reduction block: the accumulators restart from zero; the scale block is left as found. -/
theorem runA (c : Dev nD) (i : grid0.Coords) (arg2 : Memref sig .tc .vmem S512x12288 .bf16) (harg2 : arg2.IsWhole) (arg3 : Memref sig .tc .vmem S2048x256 .i8) (harg3 : arg3.IsWhole) (arg4 : Memref sig .tc .vmem S32x256 .bf16) (harg4 : arg4.IsWhole) (arg5 : Memref sig .tc .vmem S2048x256 .i8) (harg5 : arg5.IsWhole) (arg6 : Memref sig .tc .vmem S32x256 .bf16) (harg6 : arg6.IsWhole) (arg7 : Memref sig .tc .vmem S512x256 .fp8e4m3) (harg7 : arg7.IsWhole) (arg8 : Memref sig .tc .vmem S512x224 .f32) (harg8 : arg8.IsWhole) (arg9 : Memref sig .tc .vmem S512x256 .f32) (harg9 : arg9.IsWhole) (arg10 : Memref sig .tc .vmem S512x256 .f32) (harg10 : arg10.IsWhole) (hc0 : cond0_0 i) (hc1 : ¬cond0_1 i)
    (x0 : Vec F S512x12288 .bf16) (x1 : Vec F S2048x256 .i8) (x2 : Vec F S32x256 .bf16) (x3 : Vec F S2048x256 .i8) (x4 : Vec F S32x256 .bf16) (x6 : Vec F S512x224 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare (nextG i x0 x1 x2 k0_pay23) ∗ owns (c : Thread nD τ) arg10 fullShare (nextU i x0 x3 x4 k0_pay24)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  simp only [k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _, _; isplitr; swap; · iexact H5
    ipureintro; rfl
  isplitl [H6]
  · iexists _; isplitr; · ipureintro; exact harg8.read_unread _
    iexact H6
  isplitl [HS0]
  · iexists _; isplitr; swap; · iexact HS0
    ipureintro
    sl_unfold_run_names
    refine (View.read_writes_full _ _ _ _ _).trans ?_
    exact congr (congr (congr (congrArg k0_pay26 ((View.readAt_unit arg2.view _ _ rfl (k0_off1_inb i)).trans (congrArg (xwin i) hf0))) (View.readCov_full arg9.view _ _ _ _)) ((View.readAt_full arg3.view _ _).trans hf1)) ((View.readAt_full arg4.view _ _).trans hf2)
  iexists _; isplitr; swap; · iexact HS1
  ipureintro
  sl_unfold_run_names
  refine (View.read_writes_full _ _ _ _ _).trans ?_
  exact congr (congr (congr (congrArg k0_pay1 (congrArg k0_pay25 ((View.readAt_unit arg2.view _ _ rfl (k0_off1_inb i)).trans (congrArg (xwin i) hf0)))) (View.readCov_full arg10.view _ _ _ _)) ((View.readAt_full arg5.view _ _).trans hf3)) ((View.readAt_full arg6.view _ _).trans hf4)

end Cert.KernelIdeal.Hand

end
-- ==== Proof.KRunB.lean ====
module

public import proofs.«01_k».proof.Proof.KRunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a middle reduction block: the accumulators go on; the scale block is left as found. -/
theorem runB (c : Dev nD) (i : grid0.Coords) (arg2 : Memref sig .tc .vmem S512x12288 .bf16) (harg2 : arg2.IsWhole) (arg3 : Memref sig .tc .vmem S2048x256 .i8) (harg3 : arg3.IsWhole) (arg4 : Memref sig .tc .vmem S32x256 .bf16) (harg4 : arg4.IsWhole) (arg5 : Memref sig .tc .vmem S2048x256 .i8) (harg5 : arg5.IsWhole) (arg6 : Memref sig .tc .vmem S32x256 .bf16) (harg6 : arg6.IsWhole) (arg7 : Memref sig .tc .vmem S512x256 .fp8e4m3) (harg7 : arg7.IsWhole) (arg8 : Memref sig .tc .vmem S512x224 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : ¬cond0_1 i)
    (x0 : Vec F S512x12288 .bf16) (x1 : Vec F S2048x256 .i8) (x2 : Vec F S32x256 .bf16) (x3 : Vec F S2048x256 .i8) (x4 : Vec F S32x256 .bf16) (xs0 : Vec F S512x256 .f32) (xs1 : Vec F S512x256 .f32) (x6 : Vec F S512x224 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare (nextG i x0 x1 x2 xs0) ∗ owns (c : Thread nD τ) arg10 fullShare (nextU i x0 x3 x4 xs1)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  simp only [k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
  obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _, _; isplitr; swap; · iexact H5
    ipureintro; rfl
  isplitl [H6]
  · iexists _; isplitr; · ipureintro; exact harg8.read_unread _
    iexact H6
  isplitl [HS0]
  · iexists _; isplitr; swap; · iexact HS0
    ipureintro
    sl_unfold_run_names
    refine (View.read_writes_full _ _ _ _ _).trans ?_
    exact congr (congr (congr (congrArg k0_pay26 ((View.readAt_unit arg2.view _ _ rfl (k0_off1_inb i)).trans (congrArg (xwin i) hf0))) ((View.readAt_full arg9.view _ _).trans hfs0)) ((View.readAt_full arg3.view _ _).trans hf1)) ((View.readAt_full arg4.view _ _).trans hf2)
  iexists _; isplitr; swap; · iexact HS1
  ipureintro
  sl_unfold_run_names
  refine (View.read_writes_full _ _ _ _ _).trans ?_
  exact congr (congr (congr (congrArg k0_pay1 (congrArg k0_pay25 ((View.readAt_unit arg2.view _ _ rfl (k0_off1_inb i)).trans (congrArg (xwin i) hf0)))) ((View.readAt_full arg10.view _ _).trans hfs1)) ((View.readAt_full arg5.view _ _).trans hf3)) ((View.readAt_full arg6.view _ _).trans hf4)

end Cert.KernelIdeal.Hand

end
-- ==== Proof.KRunC.lean ====
module

public import proofs.«01_k».proof.Proof.KRunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a last reduction block: the accumulators are finished, the two halves of the codes block and two columns of the scale block are stored. -/
theorem runC (c : Dev nD) (i : grid0.Coords) (arg2 : Memref sig .tc .vmem S512x12288 .bf16) (harg2 : arg2.IsWhole) (arg3 : Memref sig .tc .vmem S2048x256 .i8) (harg3 : arg3.IsWhole) (arg4 : Memref sig .tc .vmem S32x256 .bf16) (harg4 : arg4.IsWhole) (arg5 : Memref sig .tc .vmem S2048x256 .i8) (harg5 : arg5.IsWhole) (arg6 : Memref sig .tc .vmem S32x256 .bf16) (harg6 : arg6.IsWhole) (arg7 : Memref sig .tc .vmem S512x256 .fp8e4m3) (harg7 : arg7.IsWhole) (arg8 : Memref sig .tc .vmem S512x224 .f32) (harg8 : arg8.IsWhole) (arg9 : Memref sig .tc .vmem S512x256 .f32) (harg9 : arg9.IsWhole) (arg10 : Memref sig .tc .vmem S512x256 .f32) (harg10 : arg10.IsWhole) (hc0 : ¬cond0_0 i) (hc1 : cond0_1 i)
    (x0 : Vec F S512x12288 .bf16) (x1 : Vec F S2048x256 .i8) (x2 : Vec F S32x256 .bf16) (x3 : Vec F S2048x256 .i8) (x4 : Vec F S32x256 .bf16) (xs0 : Vec F S512x256 .f32) (xs1 : Vec F S512x256 .f32) (x6 : Vec F S512x224 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare (codesPut (nextG i x0 x1 x2 xs0) (nextU i x0 x3 x4 xs1) d)) ∗ owns (c : Thread nD τ) arg8 fullShare (scalesPut i (nextG i x0 x1 x2 xs0) (nextU i x0 x3 x4 xs1) x6) ∗ owns (c : Thread nD τ) arg9 fullShare (nextG i x0 x1 x2 xs0) ∗ owns (c : Thread nD τ) arg10 fullShare (nextU i x0 x3 x4 xs1)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
  obtain rfl := harg8.eq_unread hf6
  sl_exec (disch := first | sl_exact hc0 | sl_exact hc1)
  sl_step
  have hG : (k0_pay26 (View.readAt (Elt F) arg2.view (Rect.unit (s := S512x12288) (k0_off1 i) S512x4096.size (k0_off1_inb i)).toLoadRect (harg2.unread x0)) (View.readAt (Elt F) arg9.view (Rect.unit (s := S512x256) ![0, 0] S512x256.size inb_S512x256_S512x256_0_0).toLoadRect (harg9.unread xs0)) (View.readAt (Elt F) arg3.view (Rect.unit (s := S2048x256) ![0, 0] S2048x256.size inb_S2048x256_S2048x256_0_0).toLoadRect (harg3.unread x1)) (View.readAt (Elt F) arg4.view (Rect.unit (s := S32x256) ![0, 0] S32x256.size inb_S32x256_S32x256_0_0).toLoadRect (harg4.unread x2))) = nextG i x0 x1 x2 xs0 :=
    congr (congr (congr (congrArg k0_pay26 ((View.readAt_unit arg2.view _ _ rfl (k0_off1_inb i)).trans (congrArg (xwin i) hf0))) ((View.readAt_full arg9.view _ _).trans hfs0)) ((View.readAt_full arg3.view _ _).trans hf1)) ((View.readAt_full arg4.view _ _).trans hf2)
  have hU : (k0_pay1 (k0_pay25 (View.readAt (Elt F) arg2.view (Rect.unit (s := S512x12288) (k0_off1 i) S512x4096.size (k0_off1_inb i)).toLoadRect (harg2.unread x0))) (View.readAt (Elt F) arg10.view (Rect.unit (s := S512x256) ![0, 0] ![512, 256] inb_S512x256_S512x256_0_0).toLoadRect (harg10.unread xs1)) (View.readAt (Elt F) arg5.view (Rect.unit (s := S2048x256) ![0, 0] ![2048, 256] inb_S2048x256_S2048x256_0_0).toLoadRect (harg5.unread x3)) (View.readAt (Elt F) arg6.view (Rect.unit (s := S32x256) ![0, 0] ![32, 256] inb_S32x256_S32x256_0_0).toLoadRect (harg6.unread x4))) = nextU i x0 x3 x4 xs1 :=
    congr (congr (congr (congrArg k0_pay1 (congrArg k0_pay25 ((View.readAt_unit arg2.view _ _ rfl (k0_off1_inb i)).trans (congrArg (xwin i) hf0)))) ((View.readAt_full arg10.view _ _).trans hfs1)) ((View.readAt_full arg5.view _ _).trans hf3)) ((View.readAt_full arg6.view _ _).trans hf4)
  have hgL : arg9.view.readCov (Val := Elt F) [⟨Rect.unit (s := S512x256) ![0, 0] S512x256.size inb_S512x256_S512x256_0_0, (k0_pay26 (View.readAt (Elt F) arg2.view (Rect.unit (s := S512x12288) (k0_off1 i) S512x4096.size (k0_off1_inb i)).toLoadRect (harg2.unread x0)) (View.readAt (Elt F) arg9.view (Rect.unit (s := S512x256) ![0, 0] S512x256.size inb_S512x256_S512x256_0_0).toLoadRect (harg9.unread xs0)) (View.readAt (Elt F) arg3.view (Rect.unit (s := S2048x256) ![0, 0] S2048x256.size inb_S2048x256_S2048x256_0_0).toLoadRect (harg3.unread x1)) (View.readAt (Elt F) arg4.view (Rect.unit (s := S32x256) ![0, 0] S32x256.size inb_S32x256_S32x256_0_0).toLoadRect (harg4.unread x2)))⟩] (Rect.unit (s := S512x256) ![0, 0] S512x128.size inb_S512x256_S512x128_0_0).toLoadRect = halfL (nextG i x0 x1 x2 xs0) :=
    readCov_half arg9.view _ _ hG _ _
  have hgR : arg9.view.readCov (Val := Elt F) [⟨Rect.unit (s := S512x256) ![0, 0] S512x256.size inb_S512x256_S512x256_0_0, (k0_pay26 (View.readAt (Elt F) arg2.view (Rect.unit (s := S512x12288) (k0_off1 i) S512x4096.size (k0_off1_inb i)).toLoadRect (harg2.unread x0)) (View.readAt (Elt F) arg9.view (Rect.unit (s := S512x256) ![0, 0] S512x256.size inb_S512x256_S512x256_0_0).toLoadRect (harg9.unread xs0)) (View.readAt (Elt F) arg3.view (Rect.unit (s := S2048x256) ![0, 0] S2048x256.size inb_S2048x256_S2048x256_0_0).toLoadRect (harg3.unread x1)) (View.readAt (Elt F) arg4.view (Rect.unit (s := S32x256) ![0, 0] S32x256.size inb_S32x256_S32x256_0_0).toLoadRect (harg4.unread x2)))⟩] (Rect.unit (s := S512x256) ![0, 128] S512x128.size inb_S512x256_S512x128_0_128).toLoadRect = halfR (nextG i x0 x1 x2 xs0) :=
    readCov_half arg9.view _ _ hG _ _
  have huL : arg10.view.readCov (Val := Elt F) [⟨Rect.unit (s := S512x256) ![0, 0] ![512, 256] inb_S512x256_S512x256_0_0, (k0_pay1 (k0_pay25 (View.readAt (Elt F) arg2.view (Rect.unit (s := S512x12288) (k0_off1 i) S512x4096.size (k0_off1_inb i)).toLoadRect (harg2.unread x0))) (View.readAt (Elt F) arg10.view (Rect.unit (s := S512x256) ![0, 0] ![512, 256] inb_S512x256_S512x256_0_0).toLoadRect (harg10.unread xs1)) (View.readAt (Elt F) arg5.view (Rect.unit (s := S2048x256) ![0, 0] ![2048, 256] inb_S2048x256_S2048x256_0_0).toLoadRect (harg5.unread x3)) (View.readAt (Elt F) arg6.view (Rect.unit (s := S32x256) ![0, 0] ![32, 256] inb_S32x256_S32x256_0_0).toLoadRect (harg6.unread x4)))⟩] (Rect.unit (s := S512x256) ![0, 0] S512x128.size inb_S512x256_S512x128_0_0).toLoadRect = halfL (nextU i x0 x3 x4 xs1) :=
    readCov_half arg10.view _ _ hU _ _
  have huR : arg10.view.readCov (Val := Elt F) [⟨Rect.unit (s := S512x256) ![0, 0] ![512, 256] inb_S512x256_S512x256_0_0, (k0_pay1 (k0_pay25 (View.readAt (Elt F) arg2.view (Rect.unit (s := S512x12288) (k0_off1 i) S512x4096.size (k0_off1_inb i)).toLoadRect (harg2.unread x0))) (View.readAt (Elt F) arg10.view (Rect.unit (s := S512x256) ![0, 0] ![512, 256] inb_S512x256_S512x256_0_0).toLoadRect (harg10.unread xs1)) (View.readAt (Elt F) arg5.view (Rect.unit (s := S2048x256) ![0, 0] ![2048, 256] inb_S2048x256_S2048x256_0_0).toLoadRect (harg5.unread x3)) (View.readAt (Elt F) arg6.view (Rect.unit (s := S32x256) ![0, 0] ![32, 256] inb_S32x256_S32x256_0_0).toLoadRect (harg6.unread x4)))⟩] (Rect.unit (s := S512x256) ![0, 128] S512x128.size inb_S512x256_S512x128_0_128).toLoadRect = halfR (nextU i x0 x3 x4 xs1) :=
    readCov_half arg10.view _ _ hU _ _
  have hS : View.readAt (Elt F) arg8.view (Rect.unit (s := S512x224) ![0, 0] S512x224.size inb_S512x224_S512x224_0_0).toLoadRect (harg8.unread x6) = x6 := (View.readAt_full arg8.view _ _).trans hf6
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists arg7.view.read (Elt F) f5, _; isplitr; swap; · iexact H5
    ipureintro
    sl_unfold_run_names
    refine (View.read_writes_cons_put _ _ _ _ _ rfl).trans ?_
    rw [hgR, huR, View.read_writes_cons_put _ _ _ _ _ rfl, hgL, huL]
    rfl
  isplitl [H6]
  · iexists _; isplitr; swap; · iexact H6
    ipureintro
    sl_unfold_run_names
    refine (View.read_writes_full _ _ _ _ _).trans ?_
    rw [hgR, huR, hgL, huL, hS]
    rfl
  isplitl [HS0]
  · iexists _; isplitr; swap; · iexact HS0
    ipureintro
    sl_unfold_run_names
    refine (View.read_writes_full _ _ _ _ _).trans ?_
    exact congr (congr (congr (congrArg k0_pay26 ((View.readAt_unit arg2.view _ _ rfl (k0_off1_inb i)).trans (congrArg (xwin i) hf0))) ((View.readAt_full arg9.view _ _).trans hfs0)) ((View.readAt_full arg3.view _ _).trans hf1)) ((View.readAt_full arg4.view _ _).trans hf2)
  iexists _; isplitr; swap; · iexact HS1
  ipureintro
  sl_unfold_run_names
  refine (View.read_writes_full _ _ _ _ _).trans ?_
  exact congr (congr (congr (congrArg k0_pay1 (congrArg k0_pay25 ((View.readAt_unit arg2.view _ _ rfl (k0_off1_inb i)).trans (congrArg (xwin i) hf0)))) ((View.readAt_full arg10.view _ _).trans hfs1)) ((View.readAt_full arg5.view _ _).trans hf3)) ((View.readAt_full arg6.view _ _).trans hf4)

end Cert.KernelIdeal.Hand

end
-- ==== Proof.KDats.lean ====
/- The accumulators point by point, and the proof data of the kernel's pipeline. -/
module

public import proofs.«01_k».proof.Proof.KRunC
public import Idealize.ShloMosaic.Lib.Pipeline.ArrRel
public import Idealize.ShloMosaic.Lib.Pipeline.DatRel
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators and the pipeline's proof data -/

/-- The gate accumulator after point `n`: it restarts from zero at a first reduction block. -/
def accG (c : Dev nD) : (n : ℕ) → n < cfg0.N → Vec F S512x256 .f32
  | 0, h => nextG (grid0.coords ⟨0, h⟩) (iblk m c 0 ⟨0, h⟩) (iblk m c 1 ⟨0, h⟩) (iblk m c 2 ⟨0, h⟩) k0_pay23
  | n + 1, h => nextG (grid0.coords ⟨n + 1, h⟩) (iblk m c 0 ⟨n + 1, h⟩) (iblk m c 1 ⟨n + 1, h⟩) (iblk m c 2 ⟨n + 1, h⟩)
      (if (n + 1) % 3 = 0 then k0_pay23 else accG c n (Nat.lt_of_succ_lt h))

/-- The up accumulator after point `n`: it restarts from zero at a first reduction block. -/
def accU (c : Dev nD) : (n : ℕ) → n < cfg0.N → Vec F S512x256 .f32
  | 0, h => nextU (grid0.coords ⟨0, h⟩) (iblk m c 0 ⟨0, h⟩) (iblk m c 3 ⟨0, h⟩) (iblk m c 4 ⟨0, h⟩) k0_pay24
  | n + 1, h => nextU (grid0.coords ⟨n + 1, h⟩) (iblk m c 0 ⟨n + 1, h⟩) (iblk m c 3 ⟨n + 1, h⟩) (iblk m c 4 ⟨n + 1, h⟩)
      (if (n + 1) % 3 = 0 then k0_pay24 else accU c n (Nat.lt_of_succ_lt h))

theorem accG_first (c : Dev nD) (t : Fin cfg0.N) (h : t.val % 3 = 0) :
    accG m c t.val t.isLt = nextG (grid0.coords t) (iblk m c 0 t) (iblk m c 1 t) (iblk m c 2 t) k0_pay23 := by
  obtain ⟨n, hn⟩ := t
  cases n with
  | zero => rfl
  | succ n => unfold accG; rw [if_pos h]

theorem accG_next (c : Dev nD) (t : Fin cfg0.N) (h : ¬t.val % 3 = 0) (h' : t.val - 1 < cfg0.N) :
    accG m c t.val t.isLt = nextG (grid0.coords t) (iblk m c 0 t) (iblk m c 1 t) (iblk m c 2 t) (accG m c (t.val - 1) h') := by
  obtain ⟨n, hn⟩ := t
  cases n with
  | zero => exact absurd rfl h
  | succ n => conv_lhs => unfold accG
              rw [if_neg h]; rfl

theorem accU_first (c : Dev nD) (t : Fin cfg0.N) (h : t.val % 3 = 0) :
    accU m c t.val t.isLt = nextU (grid0.coords t) (iblk m c 0 t) (iblk m c 3 t) (iblk m c 4 t) k0_pay24 := by
  obtain ⟨n, hn⟩ := t
  cases n with
  | zero => rfl
  | succ n => unfold accU; rw [if_pos h]

theorem accU_next (c : Dev nD) (t : Fin cfg0.N) (h : ¬t.val % 3 = 0) (h' : t.val - 1 < cfg0.N) :
    accU m c t.val t.isLt = nextU (grid0.coords t) (iblk m c 0 t) (iblk m c 3 t) (iblk m c 4 t) (accU m c (t.val - 1) h') := by
  obtain ⟨n, hn⟩ := t
  cases n with
  | zero => exact absurd rfl h
  | succ n => conv_lhs => unfold accU
              rw [if_neg h]; rfl

/-- The invariant before position `n`: before the first point the two accumulators at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (accG m c n hn) ∗ owns (c : Thread nD τ) scM0_1 fullShare (accU m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accG m c n hn) ∗ owns (c : Thread nD τ) scM0_1 fullShare (accU m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accG m c (n - 1) (by omega)) ∗ owns (c : Thread nD τ) scM0_1 fullShare (accU m c (n - 1) (by omega))) ∗ (∃ r, prngReg c r)) := by
  cases n with
  | zero => exact absurd rfl hz
  | succ n => rfl

/-- The windows whose contents are stated by a property rather than by an exact value: the two results. -/
def marked : Fin 7 → Bool := fun w => w.val == 5 || w.val == 6

/-- Every pair of scale columns stored up to point `n` is in the scale block `X`. -/
def ScalesOk (c : Dev nD) (n : ℕ) (X : Vec F S512x224 .f32) : Prop :=
  ∀ (k : ℕ) (hk : k < cfg0.N), k % 3 = 2 → k ≤ n → ∀ (r : Fin 512) (j : Fin 224),
    (j.val = 2 * (k / 3) → X (ix2 r j) = scaleL (halfL (accG m c k hk)) (halfL (accU m c k hk)) (ix2 r 0))
    ∧ (j.val = 2 * (k / 3) + 1 → X (ix2 r j) = scaleR (halfR (accG m c k hk)) (halfR (accU m c k hk)) (ix2 r 0))

/-- What the body may leave in the two results' blocks: at a last reduction block the codes of the finished accumulators; in the
    scale block, which the kernel keeps from point to point, the columns stored so far. -/
def Rl (c : Dev nD) : (w : Fin cfg0.W) → Fin cfg0.N → ((cfg0.win w).block.Idx → Elt F (cfg0.win w).elt) → Prop
  | ⟨5, _⟩, t, X => t.val % 3 = 2 → ∃ d, X = codesPut (accG m c t.val t.isLt) (accU m c t.val t.isLt) d
  | ⟨6, _⟩, t, X => ScalesOk m c t.val X
  | _, _, _ => True

/-- The proof data: inputs at their blocks, the accumulators as the invariant, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The scale block is found as the point before left it. -/
theorem finds6 (c : Dev nD) (t : Fin cfg0.N) (ht : t.val ≠ 0) (Y : Vec F S512x224 .f32)
    (h : ((dats m 0 c).toRRel marked (Rl m c)).Finds 6 t Y) : ScalesOk m c (t.val - 1) Y := by
  have hN : t.val < 336 := lt_of_lt_of_eq t.isLt (show cfg0.N = 336 from N_0)
  rcases (Pipeline.RDat.finds_of_pos _ (w := 6) (t := t) rfl ht Y).mp h with hf | hl
  · have := (flush0_6 _).mp hf
    dsimp only at this
    omega
  · exact Pipeline.Dat.toRRel_leaves (dats m 0 c) (fgt := marked) (Rl := Rl m c) (w := 6) rfl hl

end Cert.KernelIdeal.Hand

end
-- ==== Proof.KScales.lean ====
/- The store of two scale columns, read at an index. -/
module

public import proofs.«01_k».proof.Proof.KDats
public import Idealize.ShloMosaic.Lib.Pipeline.ArrRel
public import Idealize.ShloMosaic.Lib.Pipeline.DatRel
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store of two scale columns, read at an index. -/
theorem scalesPut_apply (i : grid0.Coords) (g u : Vec F S512x256 .f32) (s : Vec F S512x224 .f32) (r : Fin 512) (j : Fin 224) :
    scalesPut i g u s (ix2 r j) = if j.val = 2 * (i 0).val + 1 then scaleR (halfR g) (halfR u) (ix2 r 0)
      else if j.val = 2 * (i 0).val then scaleL (halfL g) (halfL u) (ix2 r 0) else s (ix2 r j) := by
  have hi : (i 0).val < 112 := (i 0).isLt
  have hj : j.val < 224 := j.isLt
  pointwise [scalesPut, k0_pay2, k0_pay13, k0_pay3]
  have key : ∀ a : ℕ, a < 1000 → ((BitVec.ofNat 32 j.val = BitVec.ofNat 32 a) ↔ j.val = a) := fun a ha => by
    rw [← BitVec.toNat_inj, BitVec.toNat_ofNat, BitVec.toNat_ofNat, Nat.mod_eq_of_lt (by omega), Nat.mod_eq_of_lt (by omega)]
  have e1 : Scalar.addi (Scalar.muli (BitVec.ofNat 32 (i 0).val) 2#32) 1#32 = BitVec.ofNat 32 (2 * (i 0).val + 1) := by
    apply BitVec.eq_of_toNat_eq
    simp only [Scalar.addi, Scalar.muli, IntOp.addi, IntOp.muli, BitVec.toNat_add, BitVec.toNat_mul, BitVec.toNat_ofNat]
    omega
  have e0 : Scalar.addi (Scalar.muli (BitVec.ofNat 32 (i 0).val) 2#32) 0#32 = BitVec.ofNat 32 (2 * (i 0).val) := by
    apply BitVec.eq_of_toNat_eq
    simp only [Scalar.addi, Scalar.muli, IntOp.addi, IntOp.muli, BitVec.toNat_add, BitVec.toNat_mul, BitVec.toNat_ofNat]
    omega
  rw [e1, e0]
  have sel : ∀ (a b : BitVec 32) (x y : F .f32), Scalar.select (IntOp.cmpi CmpIPredicate.eq a b) x y = if a = b then x else y := fun a b x y => by
    by_cases h : a = b
    · simp [Scalar.select, IntOp.cmpi, h]
    · have hb : (a == b) = false := by simpa using h
      simp [Scalar.select, IntOp.cmpi, h, hb]
  rw [sel, sel]
  simp only [key _ (show 2 * (i 0).val + 1 < 1000 by omega), key _ (show 2 * (i 0).val < 1000 by omega)]

/-- What a last reduction block leaves in the scale block: the columns stored so far. -/
theorem scalesOk_last (c : Dev nD) (t : Fin cfg0.N) (h : t.val % 3 = 2) (Y : Vec F S512x224 .f32) (hY : ScalesOk m c (t.val - 1) Y) :
    ScalesOk m c t.val (scalesPut (grid0.coords t) (accG m c t.val t.isLt) (accU m c t.val t.isLt) Y) := by
  have ht : t.val < 336 := Nat.lt_of_lt_of_eq t.isLt N_0
  have e0 : (grid0.coords t 0).val = t.val / 3 % 112 := Pipeline.Grid.coords_val t 0 (by decide) rfl
  intro k hk hk2 hkt r j
  rw [scalesPut_apply, e0]
  by_cases hkt' : k = t.val
  · subst hkt'
    constructor
    · intro hj
      rw [if_neg (by omega), if_pos (by omega)]
    · intro hj
      rw [if_pos (by omega)]
  · have := hY k hk hk2 (by omega) r j
    constructor
    · intro hj
      rw [if_neg (by omega), if_neg (by omega)]
      exact this.1 hj
    · intro hj
      rw [if_neg (by omega), if_neg (by omega)]
      exact this.2 hj

/-- Before the first last reduction block nothing is stored yet. -/
theorem scalesOk_zero (c : Dev nD) (n : ℕ) (hn : n < 2) (Y : Vec F S512x224 .f32) : ScalesOk m c n Y := by
  intro k hk hk2 hkt
  omega

/-- A point that is no last reduction block keeps the columns stored so far. -/
theorem scalesOk_keep (c : Dev nD) (n : ℕ) (h : ¬n % 3 = 2) (Y : Vec F S512x224 .f32) (hY : n ≠ 0 → ScalesOk m c (n - 1) Y) : ScalesOk m c n Y := by
  intro k hk hk2 hkt
  exact hY (by omega) k hk hk2 (by omega)

end Cert.KernelIdeal.Hand

end
-- ==== Proof.KBody.lean ====
/- The pipeline body obligation: the body at every grid point. -/
module

public import proofs.«01_k».proof.Proof.KScales
public import Idealize.ShloMosaic.Lib.Pipeline.ArrRel
public import Idealize.ShloMosaic.Lib.Pipeline.DatRel
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, ⌜((dats m 0 c).toRRel marked (Rl m c)).Finds 5 t d⌝ ∗ owns (c : Thread nD τ) (ms0_5 t) fullShare d)
    ∗ (∃ d, ⌜((dats m 0 c).toRRel marked (Rl m c)).Finds 6 t d⌝ ∗ owns (c : Thread nD τ) (ms0_6 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, ⌜Rl m c 5 t d⌝ ∗ owns (c : Thread nD τ) (ms0_5 t) fullShare d)
    ∗ (∃ d, ⌜Rl m c 6 t d⌝ ∗ owns (c : Thread nD τ) (ms0_6 t) fullShare d))

set_option maxHeartbeats 4000000 in
/-- The body at any point, case by case on the reduction block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 336 := lt_of_lt_of_eq t.isLt (show cfg0.N = 336 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 3 = 0
  · have h1 : ¬t.val % 3 = 2 := by omega
    by_cases hz : t.val = 0
    · rw [PhiS_castSucc m c t, PhiS_zero m c _ _ hz, PhiA0_eq]
      rw [accG_first m c t h0, accU_first m c t h0]
      iintro ⟨⟨⟨HS0, HS1⟩, Hg⟩, Ho, ⟨%d0, H0⟩, ⟨%d1, H1⟩, ⟨%d2, H2⟩, ⟨%d3, H3⟩, ⟨%d4, H4⟩, ⟨%d5, -, H5⟩, ⟨%d6, %hd6, H6⟩⟩
      iapply (runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) d6 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; intro h; exact absurd h h1
      iexists _; isplitr; swap; · iexact H6
      ipureintro
      exact scalesOk_keep m c t.val h1 d6 (fun hz => finds6 m c t hz d6 hd6)
    · rw [PhiS_castSucc m c t, PhiS_pos m c _ _ hz]
      rw [accG_first m c t h0, accU_first m c t h0]
      iintro ⟨⟨⟨HS0, HS1⟩, Hg⟩, Ho, ⟨%d0, H0⟩, ⟨%d1, H1⟩, ⟨%d2, H2⟩, ⟨%d3, H3⟩, ⟨%d4, H4⟩, ⟨%d5, -, H5⟩, ⟨%d6, %hd6, H6⟩⟩
      iapply (runA c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) d6 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexists _; iexact HS1
      iintro ⟨H0, H1, H2, H3, H4, ⟨%e5, H5⟩, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; intro h; exact absurd h h1
      iexists _; isplitr; swap; · iexact H6
      ipureintro
      exact scalesOk_keep m c t.val h1 d6 (fun hz => finds6 m c t hz d6 hd6)
  · have hz : t.val ≠ 0 := by omega
    by_cases h1 : t.val % 3 = 2
    · rw [PhiS_castSucc m c t, PhiS_pos m c _ _ hz]
      have hp : t.val - 1 < cfg0.N := by omega
      rw [accG_next m c t h0 hp, accU_next m c t h0 hp]
      iintro ⟨⟨⟨HS0, HS1⟩, Hg⟩, Ho, ⟨%d0, H0⟩, ⟨%d1, H1⟩, ⟨%d2, H2⟩, ⟨%d3, H3⟩, ⟨%d4, H4⟩, ⟨%d5, -, H5⟩, ⟨%d6, %hd6, H6⟩⟩
      iapply (runC c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (accG m c (t.val - 1) hp) (accU m c (t.val - 1) hp) d6 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; intro _; exact ⟨e5, by rw [accG_next m c t h0 hp, accU_next m c t h0 hp]⟩
      iexists _; isplitr; swap; · iexact H6
      ipureintro
      have := scalesOk_last m c t h1 d6 (finds6 m c t (by omega) d6 hd6)
      rw [accG_next m c t h0 hp, accU_next m c t h0 hp] at this
      exact this
    · rw [PhiS_castSucc m c t, PhiS_pos m c _ _ hz]
      have hp : t.val - 1 < cfg0.N := by omega
      rw [accG_next m c t h0 hp, accU_next m c t h0 hp]
      iintro ⟨⟨⟨HS0, HS1⟩, Hg⟩, Ho, ⟨%d0, H0⟩, ⟨%d1, H1⟩, ⟨%d2, H2⟩, ⟨%d3, H3⟩, ⟨%d4, H4⟩, ⟨%d5, -, H5⟩, ⟨%d6, %hd6, H6⟩⟩
      iapply (runB c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (accG m c (t.val - 1) hp) (accU m c (t.val - 1) hp) d6 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; intro h; exact absurd h h1
      iexists _; isplitr; swap; · iexact H6
      ipureintro
      exact scalesOk_keep m c t.val h1 d6 (fun hz => finds6 m c t hz d6 hd6)

theorem defs₀_row (t : Fin cfg0.N) :
    defs₀ (F := F) .tc cfg0.body (cfg0.bodyArgs t (cfg0.slots t)) = bodyAt0 t := by
  unfold defs₀; rw [Defs.onTc_tc]

/-- The pipeline's body obligation, the two results held to `Rl`. -/
theorem body_obligation (c : Dev nD) : Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have ht : (Fin.last cfg0.N).val ≠ 0 := by rw [Fin.val_last]; have : cfg0.N = 336 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

end Cert.KernelIdeal.Hand

end
-- ==== Proof.LaunchMarked.lean ====
/- The launch of a pipeline whose marked windows are stated by a property, at variable proof data. -/
module

public import Idealize.ShloMosaic.Lib.Pipeline.Frame
public import Idealize.ShloMosaic.Lib.Pipeline.DatRel

@[expose] public section

noncomputable section

namespace LaunchMarked

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {Λ₀ : Idealize.SL.Sem.Labels} {P : Type} [Fintype P] [DecidableEq P] {nD : Nat} {τ : Topo} {sig : RefSig} {Val : EltTy → Type} [∀ e, Nonempty (Val e)]
variable (cfgs : P → Cfg sig Λ₀)
  (dats : (p : P) → (c : Dev nD) → Dat τ Val Unit ℕ (UR sig nD τ) ℕ (cfgs p) c) (p : P) (kit : LaunchFacts (nD := nD) (τ := τ) cfgs p)
  (defs₀ : Defs nD τ sig Val Λ₀) (𝒱₀ : Variants)

include kit in
/-- The launch of a pipeline whose marked windows are stated by a property of what the body leaves in them. -/
theorem run_marked (fgt : Fin (cfgs p).W → Bool)
    (Rl : (c : Dev nD) → (w : Fin (cfgs p).W) → Fin (cfgs p).N → (((cfgs p).win w).block.Idx → Val ((cfgs p).win w).elt) → Prop)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationRel (dats p c) defs₀ 𝒱₀ () Set.univ fgt (Rl c))
    (hshare : ∀ c w, (dats p c).share w = fullShare) (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfgs p).spec w))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g)
      (fun r => RDat.FramePost (cfgs p) (fun c => (dats p c).toRRel fgt (Rl c)) V r ∧ r.2.sem = fun _ => 0) :=
  RDat.θ_run_frame_track cfgs p kit defs₀ 𝒱₀ (fun c => (dats p c).toRRel fgt (Rl c)) m g main (fun c => (hbody c).toRRel)
    hshare howed V hmain hA hin hout _ (fun _ h => h)

end LaunchMarked

end
-- ==== Proof.KLaunch.lean ====
/- The run of the kernel: the launch over the body obligation, and the frame of its arguments. -/
module

public import proofs.«01_k».proof.Proof.KBody
public import proofs.«01_k».proof.Proof.LaunchMarked
public import Idealize.ShloMosaic.Lib.Pipeline.ArrRel
public import Idealize.ShloMosaic.Lib.Pipeline.DatRel
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends, with the arrays as the proof data have them and every counter at zero. -/
theorem run_main : θ_run defs (onTc (τ := τ) (main (F := F))) (s₀ m ρ)
    (fun r => Pipeline.RDat.FramePost (cfgs 0) (fun c => (dats m 0 c).toRRel marked (Rl m c)) (V m) r ∧ r.2.sem = fun _ => 0) :=
  LaunchMarked.run_marked cfgs (dats m) (0 : Fin 1) launch0 defs₀ Variants.none marked (Rl m) m ρ main
    (hbody := body_obligation m) (hshare := fun c => (dats m 0 c).share_full fun _ => rfl)
    (howed := fun _ _ => rfl) (V := V m) (hmain := hmain m Variants.none) (hA := A_eq m) (hin := hin m) (hout := hout m)

/-- What the launch's post says of the argument arrays: unchanged. -/
theorem args_of (r : PUnit × MemSt nD τ sig (Elt F))
    (h : Pipeline.RDat.FramePost (cfgs 0) (fun c => (dats m 0 c).toRRel marked (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
   (Pipeline.RDat.FramePost.arr_in h c 1 rfl).trans ((A_eq m c 1).trans (V_main_arg1 m c)),
   (Pipeline.RDat.FramePost.arr_in h c 2 rfl).trans ((A_eq m c 2).trans (V_main_arg2 m c)),
   (Pipeline.RDat.FramePost.arr_in h c 3 rfl).trans ((A_eq m c 3).trans (V_main_arg3 m c)),
   (Pipeline.RDat.FramePost.arr_in h c 4 rfl).trans ((A_eq m c 4).trans (V_main_arg4 m c))⟩

end Cert.KernelIdeal.Hand

end
-- ==== Proof.KGeom.lean ====
/- Where the result blocks lie in their arrays. -/
module

public import proofs.«01_k».proof.Proof.KDats
public import Idealize.ShloMosaic.Lib.Pipeline.ArrRel
public import Idealize.ShloMosaic.Lib.Pipeline.DatRel
public import Idealize.ShloMosaic.Lib.Pipeline.ValueKit.Geometry
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueKit

theorem coord_block (t : Fin grid0.N) : (grid0.coords t 0).val = t.val / 3 := by
  have h : (grid0.coords t 0).val = t.val / 3 % 112 := Pipeline.Grid.coords_val t 0 (by decide) rfl
  have := t.isLt; have : grid0.N = 336 := N_0
  omega

theorem coord_part (t : Fin grid0.N) : (grid0.coords t 1).val = t.val % 3 := by
  have h : (grid0.coords t 1).val = t.val / 1 % 3 := Pipeline.Grid.coords_val t 1 (by decide) rfl
  omega

theorem idx0 : ∀ t : Fin grid0.N, win0_0.index t = ![0, 0] := by decide +kernel
theorem idx1 : ∀ t : Fin grid0.N, win0_1.index t = ![(grid0.coords t 1).val, (grid0.coords t 0).val] := by decide +kernel
theorem idx2 : ∀ t : Fin grid0.N, win0_2.index t = ![(grid0.coords t 1).val, (grid0.coords t 0).val] := by decide +kernel
theorem idx3 : ∀ t : Fin grid0.N, win0_3.index t = ![(grid0.coords t 1).val, (grid0.coords t 0).val] := by decide +kernel
theorem idx4 : ∀ t : Fin grid0.N, win0_4.index t = ![(grid0.coords t 1).val, (grid0.coords t 0).val] := by decide +kernel
theorem idx5 : ∀ t : Fin grid0.N, win0_5.index t = ![0, (grid0.coords t 0).val] := by decide +kernel
theorem idx6 : ∀ t : Fin grid0.N, win0_6.index t = ![0, 0] := by decide +kernel
theorem cov5 : win0_5.Covers := by decide +kernel
theorem whole6 : win0_6.WholeAt ⟨335, by decide⟩ := by decide +kernel

end Cert.KernelIdeal.Hand

end
-- ==== Proof.KArrays.lean ====
/- What the two result arrays hold after a run, element by element. -/
module

public import proofs.«01_k».proof.Proof.KLaunch
public import proofs.«01_k».proof.Proof.KGeom
public import Idealize.ShloMosaic.Lib.Pipeline.ArrRel
public import Idealize.ShloMosaic.Lib.Pipeline.DatRel
public import Idealize.ShloMosaic.Lib.Pipeline.ValueKit.Geometry
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueKit

/-- The point at which column block `n` is finished. -/
def lastPt (n : Fin 112) : Fin cfg0.N := ⟨3 * n.val + 2, by have := n.isLt; have : cfg0.N = 336 := N_0; omega⟩

/-- The finished gate accumulator of column block `n`. -/
def gFin (c : Dev nD) (n : Fin 112) : Vec F S512x256 .f32 := accG m c (lastPt n).val (lastPt n).isLt
/-- The finished up accumulator of column block `n`. -/
def uFin (c : Dev nD) (n : Fin 112) : Vec F S512x256 .f32 := accU m c (lastPt n).val (lastPt n).isLt

theorem gFin_eq (c : Dev nD) (n : Fin 112) (t : Fin cfg0.N) (h : lastPt n = t) : gFin m c n = accG m c t.val t.isLt := by subst h; rfl
theorem uFin_eq (c : Dev nD) (n : Fin 112) (t : Fin cfg0.N) (h : lastPt n = t) : uFin m c n = accU m c t.val t.isLt := by subst h; rfl

/-- The left half of the code block. -/
theorem codesPut_left (g u : Vec F S512x256 .f32) (d) (r : Fin 512) (q : Fin 256) (l : Fin 128) (h : q.val = l.val) :
    codesPut g u d (ix2 r q) = codesL (halfL g) (halfL u) (ix2 r l) := by
  unfold codesPut
  conv_lhs => unfold VecWindow.put
  rw [dif_neg (by intro hh; have := (hh 1).1; simp [ix2] at this; omega)]
  rw [dif_pos (by intro a; fin_cases a <;> simp [ix2] <;> omega)]
  refine congrArg (codesL (halfL g) (halfL u)) ?_
  funext a; apply Fin.ext; fin_cases a
  · rfl
  · exact h

/-- The right half of the code block. -/
theorem codesPut_right (g u : Vec F S512x256 .f32) (d) (r : Fin 512) (q : Fin 256) (l : Fin 128) (h : q.val = 128 + l.val) :
    codesPut g u d (ix2 r q) = codesR (halfR g) (halfR u) (ix2 r l) := by
  unfold codesPut
  conv_lhs => unfold VecWindow.put
  rw [dif_pos (by intro a; fin_cases a <;> simp [ix2] <;> omega)]
  refine congrArg (codesR (halfR g) (halfR u)) ?_
  funext a; apply Fin.ext; fin_cases a
  · rfl
  · show q.val - 128 = l.val; omega

/-- What the code array holds: the codes of each column block's two halves. -/
def CodesAre (c : Dev nD) (X : Vec F S512x28672 .fp8e4m3) : Prop :=
  ∀ (r : Fin 512) (j : Fin 28672) (n : Fin 112) (l : Fin 128),
    (j.val = 256 * n.val + l.val → X (ix2 r j) = codesL (halfL (gFin m c n)) (halfL (uFin m c n)) (ix2 r l))
    ∧ (j.val = 256 * n.val + 128 + l.val → X (ix2 r j) = codesR (halfR (gFin m c n)) (halfR (uFin m c n)) (ix2 r l))

/-- `CodesAre` at one index of the array. -/
def CodeAt (c : Dev nD) (i : S512x28672.Idx) (v : Elt F .fp8e4m3) : Prop :=
  ∀ (n : Fin 112) (l : Fin 128),
    ((i 1).val = 256 * n.val + l.val → v = codesL (halfL (gFin m c n)) (halfL (uFin m c n)) (ix2 (i 0) l))
    ∧ ((i 1).val = 256 * n.val + 128 + l.val → v = codesR (halfR (gFin m c n)) (halfR (uFin m c n)) (ix2 (i 0) l))

/-- What the scale array holds: the scales of each column block's two halves. -/
def ScalesAre (c : Dev nD) (X : Vec F S512x224 .f32) : Prop :=
  ∀ (r : Fin 512) (j : Fin 224) (n : Fin 112),
    (j.val = 2 * n.val → X (ix2 r j) = scaleL (halfL (gFin m c n)) (halfL (uFin m c n)) (ix2 r 0))
    ∧ (j.val = 2 * n.val + 1 → X (ix2 r j) = scaleR (halfR (gFin m c n)) (halfR (uFin m c n)) (ix2 r 0))

set_option maxHeartbeats 1000000 in
/-- What the launch's post says of the code array. -/
theorem codes_of (r : PUnit × MemSt nD τ sig (Elt F))
    (h : Pipeline.RDat.FramePost (cfgs 0) (fun c => (dats m 0 c).toRRel marked (Rl m c)) (V m) r) (c : Dev nD) :
    CodesAre m c (r.2.mem ((c.tc : Thread nD τ).loc main_v1_0)) := by
  obtain ⟨after, hL, hA⟩ := Pipeline.RDat.FramePost.exists_exact h c
  have e5 : r.2.mem ((c.tc : Thread nD τ).loc main_v1_0) = (((dats m 0 c).toRRel marked (Rl m c)).withAfter after).arrAt 5 cfg0.N := hA 5
  rw [e5]
  intro r' j n l
  refine (fun key : CodeAt m c (ix2 r' j) _ => ?_) ((((dats m 0 c).toRRel marked (Rl m c)).withAfter after).arrAt_forall_of_covers (5 : Fin cfg0.W)
    (fun i v => CodeAt m c i v) cov5 (fun t hf y => ?_) (ix2 r' j) (Memref.isWhole_whole _))
  · exact key n l
  have ht := (flush0_5 t).mp hf
  obtain ⟨d, hd⟩ := Pipeline.Dat.toRRel_leaves (dat := dats m 0 c) (fgt := marked) (Rl := Rl m c) (w := (5 : Fin cfg0.W)) rfl (hL 5 t hf) ht
  intro n l
  have hc0 : ((((cfg0.win 5).blk t).view.emb y) 0).val = (y 0).val := by
    have := win0_5.rect_emb_val t y 0; rw [idx5 t] at this; simpa using this
  have hc1 : ((((cfg0.win 5).blk t).view.emb y) 1).val = t.val / 3 * 256 + (y 1).val := by
    have := win0_5.rect_emb_val t y 1; rw [idx5 t] at this; rw [← coord_block t]; exact this
  have hy0 : (y 0).val < 512 := (y 0).isLt
  have hy1 : (y 1).val < 256 := (y 1).isLt
  have hv : _root_.cast (congrArg (Elt F) ((cfg0.win 5).blk t).view.elt_eq.symm)
      (((((dats m 0 c).toRRel marked (Rl m c)).withAfter after).after 5 t) ((cfg0.win 5).xinj (cfg0.grid.coords t) y))
        = codesPut (accG m c t.val t.isLt) (accU m c t.val t.isLt) d (ix2 (⟨(y 0).val, hy0⟩ : Fin 512) (⟨(y 1).val, hy1⟩ : Fin 256)) := by
    show after 5 t _ = _
    rw [hd]
    refine congrArg (codesPut _ _ d) ?_
    funext a; apply Fin.ext; fin_cases a <;> rfl
  have hr : (⟨(y 0).val, hy0⟩ : Fin 512) = (((cfg0.win 5).blk t).view.emb y) 0 := Fin.ext hc0.symm
  have hlt : n.val = t.val / 3 → lastPt n = t := fun e => Fin.ext (by show 3 * n.val + 2 = t.val; omega)
  have hl := l.isLt
  constructor
  · intro h1
    rw [hc1] at h1
    have ht' := hlt (by omega)
    refine hv.trans ((codesPut_left _ _ d _ _ l (by show (y 1).val = l.val; omega)).trans ?_)
    rw [gFin_eq m c n t ht', uFin_eq m c n t ht']
    exact congrArg (fun q : Fin 512 => codesL (halfL (accG m c t.val t.isLt)) (halfL (accU m c t.val t.isLt)) (ix2 q l)) hr
  · intro h1
    rw [hc1] at h1
    have ht' := hlt (by omega)
    refine hv.trans ((codesPut_right _ _ d _ _ l (by show (y 1).val = 128 + l.val; omega)).trans ?_)
    rw [gFin_eq m c n t ht', uFin_eq m c n t ht']
    exact congrArg (fun q : Fin 512 => codesR (halfR (accG m c t.val t.isLt)) (halfR (accU m c t.val t.isLt)) (ix2 q l)) hr

set_option maxHeartbeats 1000000 in
/-- What the launch's post says of the scale array. -/
theorem scales_of (r : PUnit × MemSt nD τ sig (Elt F))
    (h : Pipeline.RDat.FramePost (cfgs 0) (fun c => (dats m 0 c).toRRel marked (Rl m c)) (V m) r) (c : Dev nD) :
    ScalesAre m c (r.2.mem ((c.tc : Thread nD τ).loc main_v1_1)) := by
  obtain ⟨X, hX, hj⟩ := Pipeline.RDat.ArrAt.emb_eq_of_wholeAt (w := (6 : Fin cfg0.W)) ((h c).1 6) whole6
  have hS : ScalesOk m c 335 X := Pipeline.Dat.toRRel_leaves (dat := dats m 0 c) (fgt := marked) (Rl := Rl m c) (w := (6 : Fin cfg0.W)) rfl hX
  intro r' j n
  have e : r.2.mem ((c.tc : Thread nD τ).loc main_v1_1) (ix2 r' j) = X (ix2 r' j) := (hj (ix2 r' j)).trans (by
    show X _ = X _
    refine congrArg X ?_
    funext a; apply Fin.ext; fin_cases a <;> rfl)
  have hn := n.isLt
  obtain ⟨h1, h2⟩ := hS (lastPt n).val (lastPt n).isLt (by show (3 * n.val + 2) % 3 = 2; omega) (by show 3 * n.val + 2 ≤ 335; omega) r' j
  have hk : (lastPt n).val / 3 = n.val := by show (3 * n.val + 2) / 3 = n.val; omega
  rw [hk] at h1 h2
  rw [e]
  exact ⟨h1, h2⟩

/-- The kernel's run, read at the results and the arguments. -/
theorem run_values : θ_run defs (onTc (τ := τ) (main (F := F))) ⟨m, fun _ => 0, ρ⟩ (fun r => (∀ c : Dev nD,
    CodesAre m c (r.2.mem ((c.tc : Thread nD τ).loc main_v1_0)) ∧ ScalesAre m c (r.2.mem ((c.tc : Thread nD τ).loc main_v1_1))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨codes_of m r h.1 c, scales_of m r h.1 c, args_of m r h.1 c⟩, h.2⟩) (run_main m ρ)

end Cert.KernelIdeal.Hand

end
-- ==== Proof.KBlocks.lean ====
/- The input blocks as entries of the argument arrays. -/
module

public import proofs.«01_k».proof.Proof.KDats
public import proofs.«01_k».proof.Proof.KGeom
public import Idealize.ShloMosaic.Lib.StableHlo.Run
public import Idealize.ShloMosaic.Lib.Pipeline.ValueKit.Geometry
public import Idealize.ShloMosaic.Lib.Pointwise
public import Idealize.ShloMosaic.Lib.ValueLayout

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The activation array when the pipeline starts: the first argument, its unit axis dropped. -/
theorem V_x (c : Dev nD) : V m c main_v0 = (shapeCast S512x12288 (m ((c.tc : Thread nD τ).loc main_arg0) : Vec F S1x512x12288 .bf16) shapeCasts_S1x512x12288_S512x12288 : Vec F S512x12288 .bf16) := by
  unfold V hostOps0
  after_results
  rfl

theorem V_x_apply (c : Dev nD) (r : Fin 512) (k : Fin 12288) :
    (V m c main_v0 : Vec F S512x12288 .bf16) (ix2 r k) = (m ((c.tc : Thread nD τ).loc main_arg0) : Vec F S1x512x12288 .bf16) (ix3 0 r k) := by
  rw [V_x]
  exact ValueIdx.shapeCast_1ab_ab_apply _ _ _ _

/-- Window 1's block at point `t`. -/
theorem iblk1_apply (c : Dev nD) (t : Fin cfg0.N) (k : Fin 2048) (q : Fin 256) (k' : Fin 6144) (j : Fin 28672)
    (hk : k'.val = t.val % 3 * 2048 + k.val) (hj : j.val = t.val / 3 * 256 + q.val) :
    (iblk m c 1 t : Vec F S2048x256 .i8) (ix2 k q) = (m ((c.tc : Thread nD τ).loc main_arg1) : Vec F S6144x28672 .i8) (ix2 k' j) := by
  show (V m c main_arg1 : Vec F S6144x28672 .i8) (((cfg0.win 1).blk t).view.emb (ix2 k q)) = _
  rw [V_main_arg1]
  refine congrArg (m ((c.tc : Thread nD τ).loc main_arg1) : Vec F S6144x28672 .i8) ?_
  funext a; apply Fin.ext; fin_cases a
  · have := win0_1.rect_emb_val t (ix2 k q) 0; rw [idx1 t] at this
    show (((cfg0.win 1).blk t).view.emb (ix2 k q) 0).val = k'.val
    rw [hk, ← coord_part t]; exact this
  · have := win0_1.rect_emb_val t (ix2 k q) 1; rw [idx1 t] at this
    show (((cfg0.win 1).blk t).view.emb (ix2 k q) 1).val = j.val
    rw [hj, ← coord_block t]; exact this

/-- Window 2's block at point `t`. -/
theorem iblk2_apply (c : Dev nD) (t : Fin cfg0.N) (k : Fin 32) (q : Fin 256) (k' : Fin 96) (j : Fin 28672)
    (hk : k'.val = t.val % 3 * 32 + k.val) (hj : j.val = t.val / 3 * 256 + q.val) :
    (iblk m c 2 t : Vec F S32x256 .bf16) (ix2 k q) = (m ((c.tc : Thread nD τ).loc main_arg2) : Vec F S96x28672 .bf16) (ix2 k' j) := by
  show (V m c main_arg2 : Vec F S96x28672 .bf16) (((cfg0.win 2).blk t).view.emb (ix2 k q)) = _
  rw [V_main_arg2]
  refine congrArg (m ((c.tc : Thread nD τ).loc main_arg2) : Vec F S96x28672 .bf16) ?_
  funext a; apply Fin.ext; fin_cases a
  · have := win0_2.rect_emb_val t (ix2 k q) 0; rw [idx2 t] at this
    show (((cfg0.win 2).blk t).view.emb (ix2 k q) 0).val = k'.val
    rw [hk, ← coord_part t]; exact this
  · have := win0_2.rect_emb_val t (ix2 k q) 1; rw [idx2 t] at this
    show (((cfg0.win 2).blk t).view.emb (ix2 k q) 1).val = j.val
    rw [hj, ← coord_block t]; exact this

/-- Window 3's block at point `t`. -/
theorem iblk3_apply (c : Dev nD) (t : Fin cfg0.N) (k : Fin 2048) (q : Fin 256) (k' : Fin 6144) (j : Fin 28672)
    (hk : k'.val = t.val % 3 * 2048 + k.val) (hj : j.val = t.val / 3 * 256 + q.val) :
    (iblk m c 3 t : Vec F S2048x256 .i8) (ix2 k q) = (m ((c.tc : Thread nD τ).loc main_arg3) : Vec F S6144x28672 .i8) (ix2 k' j) := by
  show (V m c main_arg3 : Vec F S6144x28672 .i8) (((cfg0.win 3).blk t).view.emb (ix2 k q)) = _
  rw [V_main_arg3]
  refine congrArg (m ((c.tc : Thread nD τ).loc main_arg3) : Vec F S6144x28672 .i8) ?_
  funext a; apply Fin.ext; fin_cases a
  · have := win0_3.rect_emb_val t (ix2 k q) 0; rw [idx3 t] at this
    show (((cfg0.win 3).blk t).view.emb (ix2 k q) 0).val = k'.val
    rw [hk, ← coord_part t]; exact this
  · have := win0_3.rect_emb_val t (ix2 k q) 1; rw [idx3 t] at this
    show (((cfg0.win 3).blk t).view.emb (ix2 k q) 1).val = j.val
    rw [hj, ← coord_block t]; exact this

/-- Window 4's block at point `t`. -/
theorem iblk4_apply (c : Dev nD) (t : Fin cfg0.N) (k : Fin 32) (q : Fin 256) (k' : Fin 96) (j : Fin 28672)
    (hk : k'.val = t.val % 3 * 32 + k.val) (hj : j.val = t.val / 3 * 256 + q.val) :
    (iblk m c 4 t : Vec F S32x256 .bf16) (ix2 k q) = (m ((c.tc : Thread nD τ).loc main_arg4) : Vec F S96x28672 .bf16) (ix2 k' j) := by
  show (V m c main_arg4 : Vec F S96x28672 .bf16) (((cfg0.win 4).blk t).view.emb (ix2 k q)) = _
  rw [V_main_arg4]
  refine congrArg (m ((c.tc : Thread nD τ).loc main_arg4) : Vec F S96x28672 .bf16) ?_
  funext a; apply Fin.ext; fin_cases a
  · have := win0_4.rect_emb_val t (ix2 k q) 0; rw [idx4 t] at this
    show (((cfg0.win 4).blk t).view.emb (ix2 k q) 0).val = k'.val
    rw [hk, ← coord_part t]; exact this
  · have := win0_4.rect_emb_val t (ix2 k q) 1; rw [idx4 t] at this
    show (((cfg0.win 4).blk t).view.emb (ix2 k q) 1).val = j.val
    rw [hj, ← coord_block t]; exact this

theorem off_part (i : grid0.Coords) : k0_off1 i = ![0, (i 1).val * 4096] := by
  have h : (i 1).val < 3 := (i 1).isLt
  have e : (Scalar.muli (BitVec.ofNat 32 (i 1).val) 4096#32).toNat = (i 1).val * 4096 := by
    simp only [Scalar.muli, IntOp.muli, BitVec.toNat_mul, BitVec.toNat_ofNat]; omega
  unfold k0_off1
  exact congrArg (fun n : ℕ => (![0, n] : Fin 2 → ℕ)) e

/-- The activation columns read at point `t`. -/
theorem xwin_apply (c : Dev nD) (t : Fin cfg0.N) (r : Fin 512) (k : Fin 4096) (k' : Fin 12288) (hk : k'.val = t.val % 3 * 4096 + k.val) :
    xwin (grid0.coords t) (iblk m c 0 t) (ix2 r k) = (m ((c.tc : Thread nD τ).loc main_arg0) : Vec F S1x512x12288 .bf16) (ix3 0 r k') := by
  have hw : (iblk m c 0 t : Vec F S512x12288 .bf16) = V m c main_v0 := by
    funext y
    show (V m c main_v0 : Vec F S512x12288 .bf16) (((cfg0.win 0).blk t).view.emb y) = _
    refine congrArg (V m c main_v0 : Vec F S512x12288 .bf16) ?_
    funext a; apply Fin.ext; fin_cases a
    · have := win0_0.rect_emb_val t y 0; rw [idx0 t] at this; simpa using this
    · have := win0_0.rect_emb_val t y 1; rw [idx0 t] at this; simpa using this
  rw [← V_x_apply m c r k']
  show (iblk m c 0 t : Vec F S512x12288 .bf16) _ = _
  rw [hw]
  refine congrArg (V m c main_v0 : Vec F S512x12288 .bf16) ?_
  have e0 : k0_off1 (grid0.coords t) 0 = 0 := by rw [off_part]; rfl
  have e1 : k0_off1 (grid0.coords t) 1 = t.val % 3 * 4096 := by rw [off_part, ← coord_part t]; rfl
  funext a; apply Fin.ext; fin_cases a
  · show k0_off1 (grid0.coords t) 0 + 1 * r.val = r.val; omega
  · show k0_off1 (grid0.coords t) 1 + 1 * k.val = k'.val; omega

end Cert.KernelIdeal.Hand

end
-- ==== Proof.Packed.lean ====
/- The packed weights: nibbles as signed values, and the interleaved sum over three blocks. -/
module

public import Idealize.ShloMosaic.Lib.IdealHost
public import Idealize.ShloMosaic.Lib.Pointwise

@[expose] public section

noncomputable section

namespace HandProj

open Idealize.ShloMosaic

/-- The low nibble less eight, as the reference reads it. -/
def wlow (c : BitVec 8) : EReal :=
  FloatOps.sitofp (F := Ideal) FTy.bf16 (IntOp.andi (BitVec.setWidth 32 c) 15#32) - Ideal.ofBits FTy.bf16 16640#16
/-- The high nibble less eight, as the reference reads it. -/
def whigh (c : BitVec 8) : EReal :=
  FloatOps.sitofp (F := Ideal) FTy.bf16 (IntOp.shrsi ArithUnit.host (BitVec.setWidth 32 c) 4#32) - Ideal.ofBits FTy.bf16 16640#16

theorem eight_bits : Ideal.ofBits FTy.bf16 16640#16 = ((8 : ℝ) : EReal) := by
  simp [Ideal.ofBits, Ideal.ieee, -EReal.coe_mul]; norm_num

theorem low_int : ∀ c : BitVec 8,
    (BitVec.setWidth 4 (IntOp.shrsi ArithUnit.vector (IntOp.shli ArithUnit.vector (BitVec.setWidth 32 (IntOp.xori c 136#8)) 28#32) 28#32)).toInt
      = (IntOp.andi (BitVec.setWidth 32 c) 15#32).toInt - 8 := by decide +kernel

theorem high_int : ∀ c : BitVec 8,
    (BitVec.setWidth 4 (IntOp.shrsi ArithUnit.vector (IntOp.shli ArithUnit.vector (BitVec.setWidth 32 (IntOp.xori c 136#8)) 24#32) 28#32)).toInt
      = (IntOp.shrsi ArithUnit.host (BitVec.setWidth 32 c) 4#32).toInt - 8 := by decide +kernel

/-- The kernel's low nibble: the sign bit flipped, read as a signed 4-bit integer. -/
theorem low_eq (c : BitVec 8) : FloatOps.sitofp (F := Ideal) FTy.bf16
    (BitVec.setWidth 4 (IntOp.shrsi ArithUnit.vector (IntOp.shli ArithUnit.vector (BitVec.setWidth 32 (IntOp.xori c 136#8)) 28#32) 28#32)) = wlow c := by
  unfold wlow
  rw [eight_bits]
  show (((BitVec.toInt _ : ℤ) : ℝ) : EReal) = (((BitVec.toInt _ : ℤ) : ℝ) : EReal) - _
  rw [low_int, ← EReal.coe_sub]; push_cast; rfl

/-- The kernel's high nibble. -/
theorem high_eq (c : BitVec 8) : FloatOps.sitofp (F := Ideal) FTy.bf16
    (BitVec.setWidth 4 (IntOp.shrsi ArithUnit.vector (IntOp.shli ArithUnit.vector (BitVec.setWidth 32 (IntOp.xori c 136#8)) 24#32) 28#32)) = whigh c := by
  unfold whigh
  rw [eight_bits]
  show (((BitVec.toInt _ : ℤ) : ℝ) : EReal) = (((BitVec.toInt _ : ℤ) : ℝ) : EReal) - _
  rw [high_int, ← EReal.coe_sub]; push_cast; rfl

/-- A sum over 4096 interleaved terms: the even ones and the odd ones. -/
theorem sum_interleaved (f : Fin 4096 → EReal) :
    ∑ x, f x = (∑ i : Fin 2048, f ⟨2 * i.val, by omega⟩) + ∑ i : Fin 2048, f ⟨2 * i.val + 1, by omega⟩ := by
  rw [← Equiv.sum_comp (finProdFinEquiv (m := 2048) (n := 2)) f, Fintype.sum_prod_type, ← Finset.sum_add_distrib]
  refine Finset.sum_congr rfl fun i _ => ?_
  rw [Fin.sum_univ_two]
  refine congrArg₂ (· + ·) ?_ ?_
  · exact congrArg f (Fin.ext (by simp [finProdFinEquiv]))
  · exact congrArg f (Fin.ext (by simp [finProdFinEquiv]; omega))

/-- A sum over 6144 terms in three blocks. -/
theorem sum_blocks (f : Fin 6144 → EReal) :
    ∑ x, f x = (∑ i : Fin 2048, f ⟨i.val, by omega⟩) + (∑ i : Fin 2048, f ⟨2048 + i.val, by omega⟩) + ∑ i : Fin 2048, f ⟨4096 + i.val, by omega⟩ := by
  rw [← Equiv.sum_comp (finProdFinEquiv (m := 3) (n := 2048)) f, Fintype.sum_prod_type, Fin.sum_univ_three]
  refine congrArg₂ (· + ·) (congrArg₂ (· + ·) ?_ ?_) ?_
  · exact Finset.sum_congr rfl fun i _ => congrArg f (Fin.ext (by simp [finProdFinEquiv]))
  · exact Finset.sum_congr rfl fun i _ => congrArg f (Fin.ext (by simp [finProdFinEquiv]; omega))
  · exact Finset.sum_congr rfl fun i _ => congrArg f (Fin.ext (by simp [finProdFinEquiv]; omega))

end HandProj

end
-- ==== Proof.KProj.lean ====
/- The accumulators after the third part: the int4 projection at an index. -/
module

public import proofs.«01_k».proof.Proof.KArrays
public import proofs.«01_k».proof.Proof.KBlocks
public import proofs.«01_k».proof.Proof.Packed
public import Idealize.ShloMosaic.Lib.Pointwise
public import Idealize.ShloMosaic.Lib.IdealHost

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open HandProj

/-- One even activation column times its weight. -/
def lowTerm (x : Vec Ideal S1x512x12288 .bf16) (w : Vec Ideal S6144x28672 .i8) (s : Vec Ideal S96x28672 .bf16) (r : Fin 512) (j : Fin 28672) (k : Fin 6144) : EReal :=
  x (ix3 0 r ⟨2 * k.val, by omega⟩) * (wlow (w (ix2 k j)) * s (ix2 ⟨k.val / 64, by omega⟩ j))

/-- One odd activation column times its weight. -/
def highTerm (x : Vec Ideal S1x512x12288 .bf16) (w : Vec Ideal S6144x28672 .i8) (s : Vec Ideal S96x28672 .bf16) (r : Fin 512) (j : Fin 28672) (k : Fin 6144) : EReal :=
  x (ix3 0 r ⟨1 + 2 * k.val, by omega⟩) * (whigh (w (ix2 k j)) * s (ix2 ⟨k.val / 64, by omega⟩ j))

/-- One block product: the accumulator plus the even and the odd columns' sums. -/
theorem pay26_sums (x : Vec Ideal S512x4096 .bf16) (a : Vec Ideal S512x256 .f32) (w : Vec Ideal S2048x256 .i8) (s : Vec Ideal S32x256 .bf16) (r : Fin 512) (q : Fin 256) :
    (k0_pay26 x a w s : Vec Ideal S512x256 .f32) (ix2 r q)
      = a (ix2 r q) + ((∑ i : Fin 2048, x (ix2 r ⟨2 * i.val, by omega⟩) * (wlow (w (ix2 i q)) * s (ix2 ⟨i.val / 64, by omega⟩ q)))
        + ∑ i : Fin 2048, x (ix2 r ⟨2 * i.val + 1, by omega⟩) * (whigh (w (ix2 i q)) * s (ix2 ⟨i.val / 64, by omega⟩ q))) := by
  pointwise [k0_pay26, k0_pay25]
  refine congrArg (a (ix2 r q) + ·) ((sum_interleaved _).trans (congrArg₂ (· + ·) ?_ ?_))
  · refine Finset.sum_congr rfl fun i _ => ?_
    have e1 : (⟨2 * i.val / 2, by omega⟩ : Fin 2048) = i := Fin.ext (by show 2 * i.val / 2 = i.val; omega)
    have e2 : (⟨2 * i.val / 128, by omega⟩ : Fin 32) = ⟨i.val / 64, by omega⟩ := Fin.ext (by show 2 * i.val / 128 = i.val / 64; omega)
    rw [dif_pos (show 2 * i.val % 2 < 1 by omega), low_eq, e1, e2]
  · refine Finset.sum_congr rfl fun i _ => ?_
    have e1 : (⟨(2 * i.val + 1) / 2, by omega⟩ : Fin 2048) = i := Fin.ext (by show (2 * i.val + 1) / 2 = i.val; omega)
    have e2 : (⟨(2 * i.val + 1) / 128, by omega⟩ : Fin 32) = ⟨i.val / 64, by omega⟩ := Fin.ext (by show (2 * i.val + 1) / 128 = i.val / 64; omega)
    rw [dif_neg (show ¬ (2 * i.val + 1) % 2 < 1 by omega), high_eq, e1, e2]

theorem pay1_eq (x : Vec Ideal S512x4096 .bf16) (a : Vec Ideal S512x256 .f32) (w : Vec Ideal S2048x256 .i8) (s : Vec Ideal S32x256 .bf16) :
    (k0_pay1 (k0_pay25 x) a w s : Vec Ideal S512x256 .f32) = k0_pay26 x a w s := rfl

theorem zero23 (r : Fin 512) (q : Fin 256) : (k0_pay23 (F := Ideal)) (ix2 r q) = 0 := by
  pointwise [k0_pay23]
theorem zero24 (r : Fin 512) (q : Fin 256) : (k0_pay24 (F := Ideal)) (ix2 r q) = 0 := by
  pointwise [k0_pay24]

variable (m : (ℓ : Loc nD τ sig) → Buf (Elt Ideal) ℓ)

/-- The block of part `p` in the arguments' rows. -/
def part (x : Vec Ideal S1x512x12288 .bf16) (w : Vec Ideal S6144x28672 .i8) (s : Vec Ideal S96x28672 .bf16) (r : Fin 512) (j : Fin 28672) (p : Fin 3) : EReal :=
  (∑ i : Fin 2048, lowTerm x w s r j ⟨2048 * p.val + i.val, by omega⟩) + ∑ i : Fin 2048, highTerm x w s r j ⟨2048 * p.val + i.val, by omega⟩

abbrev argX (c : Dev nD) : Vec Ideal S1x512x12288 .bf16 := m ((c.tc : Thread nD τ).loc main_arg0)
abbrev argW1 (c : Dev nD) : Vec Ideal S6144x28672 .i8 := m ((c.tc : Thread nD τ).loc main_arg1)
abbrev argS1 (c : Dev nD) : Vec Ideal S96x28672 .bf16 := m ((c.tc : Thread nD τ).loc main_arg2)
abbrev argW3 (c : Dev nD) : Vec Ideal S6144x28672 .i8 := m ((c.tc : Thread nD τ).loc main_arg3)
abbrev argS3 (c : Dev nD) : Vec Ideal S96x28672 .bf16 := m ((c.tc : Thread nD τ).loc main_arg4)

theorem nextG_apply (c : Dev nD) (t : Fin cfg0.N) (p : Fin 3) (hp : t.val % 3 = p.val) (a : Vec Ideal S512x256 .f32) (r : Fin 512) (q : Fin 256) (j : Fin 28672) (hj : j.val = t.val / 3 * 256 + q.val) :
    nextG (grid0.coords t) (iblk m c 0 t) (iblk m c 1 t) (iblk m c 2 t) a (ix2 r q) = a (ix2 r q) + part (argX m c) (argW1 m c) (argS1 m c) r j p := by
  unfold nextG
  rw [pay26_sums]
  refine congrArg (a (ix2 r q) + ·) (congrArg₂ (· + ·) (Finset.sum_congr rfl fun i _ => ?_) (Finset.sum_congr rfl fun i _ => ?_))
  · unfold lowTerm
    rw [xwin_apply m c t r ⟨2 * i.val, by omega⟩ ⟨2 * (2048 * p.val + i.val), by omega⟩ (by show _ = t.val % 3 * 4096 + 2 * i.val; rw [hp]; show 2 * (2048 * p.val + i.val) = _; omega),
      iblk1_apply m c t i q ⟨2048 * p.val + i.val, by omega⟩ j (by rw [hp]; show 2048 * p.val + i.val = _; omega) hj,
      iblk2_apply m c t ⟨i.val / 64, by omega⟩ q ⟨(2048 * p.val + i.val) / 64, by omega⟩ j (by rw [hp]; show (2048 * p.val + i.val) / 64 = p.val * 32 + i.val / 64; omega) hj]
  · unfold highTerm
    rw [xwin_apply m c t r ⟨2 * i.val + 1, by omega⟩ ⟨1 + 2 * (2048 * p.val + i.val), by omega⟩ (by show _ = t.val % 3 * 4096 + (2 * i.val + 1); rw [hp]; show 1 + 2 * (2048 * p.val + i.val) = _; omega),
      iblk1_apply m c t i q ⟨2048 * p.val + i.val, by omega⟩ j (by rw [hp]; show 2048 * p.val + i.val = _; omega) hj,
      iblk2_apply m c t ⟨i.val / 64, by omega⟩ q ⟨(2048 * p.val + i.val) / 64, by omega⟩ j (by rw [hp]; show (2048 * p.val + i.val) / 64 = p.val * 32 + i.val / 64; omega) hj]

theorem nextU_apply (c : Dev nD) (t : Fin cfg0.N) (p : Fin 3) (hp : t.val % 3 = p.val) (a : Vec Ideal S512x256 .f32) (r : Fin 512) (q : Fin 256) (j : Fin 28672) (hj : j.val = t.val / 3 * 256 + q.val) :
    nextU (grid0.coords t) (iblk m c 0 t) (iblk m c 3 t) (iblk m c 4 t) a (ix2 r q) = a (ix2 r q) + part (argX m c) (argW3 m c) (argS3 m c) r j p := by
  unfold nextU
  rw [pay1_eq]
  rw [pay26_sums]
  refine congrArg (a (ix2 r q) + ·) (congrArg₂ (· + ·) (Finset.sum_congr rfl fun i _ => ?_) (Finset.sum_congr rfl fun i _ => ?_))
  · unfold lowTerm
    rw [xwin_apply m c t r ⟨2 * i.val, by omega⟩ ⟨2 * (2048 * p.val + i.val), by omega⟩ (by show _ = t.val % 3 * 4096 + 2 * i.val; rw [hp]; show 2 * (2048 * p.val + i.val) = _; omega),
      iblk3_apply m c t i q ⟨2048 * p.val + i.val, by omega⟩ j (by rw [hp]; show 2048 * p.val + i.val = _; omega) hj,
      iblk4_apply m c t ⟨i.val / 64, by omega⟩ q ⟨(2048 * p.val + i.val) / 64, by omega⟩ j (by rw [hp]; show (2048 * p.val + i.val) / 64 = p.val * 32 + i.val / 64; omega) hj]
  · unfold highTerm
    rw [xwin_apply m c t r ⟨2 * i.val + 1, by omega⟩ ⟨1 + 2 * (2048 * p.val + i.val), by omega⟩ (by show _ = t.val % 3 * 4096 + (2 * i.val + 1); rw [hp]; show 1 + 2 * (2048 * p.val + i.val) = _; omega),
      iblk3_apply m c t i q ⟨2048 * p.val + i.val, by omega⟩ j (by rw [hp]; show 2048 * p.val + i.val = _; omega) hj,
      iblk4_apply m c t ⟨i.val / 64, by omega⟩ q ⟨(2048 * p.val + i.val) / 64, by omega⟩ j (by rw [hp]; show (2048 * p.val + i.val) / 64 = p.val * 32 + i.val / 64; omega) hj]

/-- The three parts together are the sums over all rows. -/
theorem parts_sum (x : Vec Ideal S1x512x12288 .bf16) (w : Vec Ideal S6144x28672 .i8) (s : Vec Ideal S96x28672 .bf16) (r : Fin 512) (j : Fin 28672) :
    0 + part x w s r j 0 + part x w s r j 1 + part x w s r j 2 = (∑ k, lowTerm x w s r j k) + ∑ k, highTerm x w s r j k := by
  have e0 : ∀ f : Fin 6144 → EReal, (∑ i : Fin 2048, f ⟨2048 * (0 : Fin 3).val + i.val, by show 2048 * 0 + _ < _; omega⟩) = ∑ i : Fin 2048, f ⟨i.val, by omega⟩ := fun f =>
    Finset.sum_congr rfl fun i _ => congrArg f (Fin.ext (by show 2048 * 0 + i.val = i.val; omega))
  rw [sum_blocks (lowTerm x w s r j), sum_blocks (highTerm x w s r j), zero_add]
  unfold part
  rw [e0, e0]
  show _ + _ + (_ + _) + (_ + _) = _
  have ac : ∀ a b c d e f : EReal, a + b + (c + d) + (e + f) = a + c + e + (b + d + f) := fun a b c d e f => by
    rw [add_add_add_comm a b c d, add_add_add_comm (a + c) (b + d) e f]
  exact ac _ _ _ _ _ _

/-- The accumulator of `g` at the end of block `n` is the projection's columns. -/
theorem gFin_apply (c : Dev nD) (n : Fin 112) (r : Fin 512) (q : Fin 256) (j : Fin 28672) (hj : j.val = 256 * n.val + q.val) :
    (gFin m c n : Vec Ideal S512x256 .f32) (ix2 r q) = (∑ k, lowTerm (argX m c) (argW1 m c) (argS1 m c) r j k) + ∑ k, highTerm (argX m c) (argW1 m c) (argS1 m c) r j k := by
  have hN : cfg0.N = 336 := rfl
  have hn := n.isLt
  have h0 : 3 * n.val < cfg0.N := by omega
  have h1 : 3 * n.val + 1 < cfg0.N := by omega
  have h2 : 3 * n.val + 2 < cfg0.N := by omega
  have s2 := accG_next m c ⟨3 * n.val + 2, h2⟩ (by show ¬(3 * n.val + 2) % 3 = 0; omega) h1
  have s1 := accG_next m c ⟨3 * n.val + 1, h1⟩ (by show ¬(3 * n.val + 1) % 3 = 0; omega) h0
  have s0 := accG_first m c ⟨3 * n.val, h0⟩ (by show 3 * n.val % 3 = 0; omega)
  have f0 := congrFun s0 (ix2 r q)
  rw [nextG_apply m c ⟨3 * n.val, h0⟩ 0 (by show 3 * n.val % 3 = 0; omega) _ r q j (by show _ = 3 * n.val / 3 * 256 + _; omega), zero23] at f0
  have f1 := congrFun s1 (ix2 r q)
  rw [nextG_apply m c ⟨3 * n.val + 1, h1⟩ 1 (by show (3 * n.val + 1) % 3 = 1; omega) _ r q j (by show _ = (3 * n.val + 1) / 3 * 256 + _; omega)] at f1
  have f2 := congrFun s2 (ix2 r q)
  rw [nextG_apply m c ⟨3 * n.val + 2, h2⟩ 2 (by show (3 * n.val + 2) % 3 = 2; omega) _ r q j (by show _ = (3 * n.val + 2) / 3 * 256 + _; omega)] at f2
  rw [← parts_sum, ← f0]
  refine f2.trans (congrArg (· + part _ _ _ r j 2) f1)

/-- The accumulator of `u` at the end of block `n` is the projection's columns. -/
theorem uFin_apply (c : Dev nD) (n : Fin 112) (r : Fin 512) (q : Fin 256) (j : Fin 28672) (hj : j.val = 256 * n.val + q.val) :
    (uFin m c n : Vec Ideal S512x256 .f32) (ix2 r q) = (∑ k, lowTerm (argX m c) (argW3 m c) (argS3 m c) r j k) + ∑ k, highTerm (argX m c) (argW3 m c) (argS3 m c) r j k := by
  have hN : cfg0.N = 336 := rfl
  have hn := n.isLt
  have h0 : 3 * n.val < cfg0.N := by omega
  have h1 : 3 * n.val + 1 < cfg0.N := by omega
  have h2 : 3 * n.val + 2 < cfg0.N := by omega
  have s2 := accU_next m c ⟨3 * n.val + 2, h2⟩ (by show ¬(3 * n.val + 2) % 3 = 0; omega) h1
  have s1 := accU_next m c ⟨3 * n.val + 1, h1⟩ (by show ¬(3 * n.val + 1) % 3 = 0; omega) h0
  have s0 := accU_first m c ⟨3 * n.val, h0⟩ (by show 3 * n.val % 3 = 0; omega)
  have f0 := congrFun s0 (ix2 r q)
  rw [nextU_apply m c ⟨3 * n.val, h0⟩ 0 (by show 3 * n.val % 3 = 0; omega) _ r q j (by show _ = 3 * n.val / 3 * 256 + _; omega), zero24] at f0
  have f1 := congrFun s1 (ix2 r q)
  rw [nextU_apply m c ⟨3 * n.val + 1, h1⟩ 1 (by show (3 * n.val + 1) % 3 = 1; omega) _ r q j (by show _ = (3 * n.val + 1) / 3 * 256 + _; omega)] at f1
  have f2 := congrFun s2 (ix2 r q)
  rw [nextU_apply m c ⟨3 * n.val + 2, h2⟩ 2 (by show (3 * n.val + 2) % 3 = 2; omega) _ r q j (by show _ = (3 * n.val + 2) / 3 * 256 + _; omega)] at f2
  rw [← parts_sum, ← f0]
  refine f2.trans (congrArg (· + part _ _ _ r j 2) f1)

end Cert.KernelIdeal.Hand

end
-- ==== Proof.Powers.lean ====
/- Powers of two as 32-bit patterns, and the binary search for the exponent field over the extended reals. -/
module

public import Idealize.ShloMosaic.Lib.IdealHost
public import Idealize.ShloMosaic.Lib.Pointwise

@[expose] public section

noncomputable section

namespace HandPowers

open Idealize.ShloMosaic

/-- The 32-bit pattern with exponent field `k` and no fraction, as an extended real. -/
def pw (k : ℕ) : EReal := Ideal.ofBits .f32 (BitVec.ofNat 32 (k * 2 ^ 23))

/-- It is the power of two `2^(k−127)`. -/
theorem pw_eq (k : ℕ) (h1 : 1 ≤ k) (h2 : k ≤ 254) : pw k = (((2 : ℝ) ^ ((k : ℤ) - 127) : ℝ) : EReal) := by
  have e1 : ((BitVec.ofNat 32 (k * 2 ^ 23)).extractLsb' 23 8).toNat = k := by
    rw [BitVec.extractLsb'_toNat, BitVec.toNat_ofNat, Nat.shiftRight_eq_div_pow]; omega
  have e2 : ((BitVec.ofNat 32 (k * 2 ^ 23)).extractLsb' 0 23).toNat = 0 := by
    rw [BitVec.extractLsb'_toNat, BitVec.toNat_ofNat, Nat.shiftRight_eq_div_pow]; omega
  have e3 : ((BitVec.ofNat 32 (k * 2 ^ 23)).extractLsb' 31 1 == 1#1) = false := by
    rw [beq_eq_false_iff_ne]; intro hh
    have := congrArg BitVec.toNat hh
    rw [BitVec.extractLsb'_toNat, BitVec.toNat_ofNat, Nat.shiftRight_eq_div_pow] at this
    simp at this; omega
  show Ideal.ieee 8 23 (BitVec.ofNat 32 (k * 2 ^ 23)) = _
  unfold Ideal.ieee
  simp only [e1, e2, e3]
  rw [if_neg (by omega), if_neg (by omega)]
  congr 1
  norm_num
  rw [show (8388608 : ℝ) = (2 : ℝ) ^ (23 : ℤ) by norm_num, ← zpow_add₀ (by norm_num)]
  congr 1; ring

theorem pw_le (a b : ℕ) (h1 : 1 ≤ a) (h : a ≤ b) (h2 : b ≤ 254) : pw a ≤ pw b := by
  rw [pw_eq a h1 (by omega), pw_eq b (by omega) h2]
  exact EReal.coe_le_coe_iff.mpr (zpow_le_zpow_right₀ (by norm_num) (by omega))

theorem pw_lt (a b : ℕ) (h1 : 1 ≤ a) (h : a < b) (h2 : b ≤ 254) : pw a < pw b := by
  rw [pw_eq a h1 (by omega), pw_eq b (by omega) h2]
  exact EReal.coe_lt_coe_iff.mpr (zpow_lt_zpow_right₀ (by norm_num) (by omega))

theorem pw_one_127 : pw 127 = 1 := by
  rw [pw_eq 127 (by norm_num) (by norm_num)]; norm_num

/-- Reciprocals: `1 / 2^(k−127)`. -/
theorem div_pw (k : ℕ) (h1 : 1 ≤ k) (h2 : k ≤ 253) : Ideal.div 1 (pw k) = pw (254 - k) := by
  rw [pw_eq k h1 (by omega), pw_eq (254 - k) (by omega) (by omega)]
  have hp : (0 : ℝ) < (2 : ℝ) ^ ((k : ℤ) - 127) := by positivity
  unfold Ideal.div
  rw [if_neg (by intro h; have := EReal.coe_eq_zero.mp h; exact absurd this hp.ne'), one_mul, ← EReal.coe_inv]
  congr 1
  rw [← zpow_neg]; congr 1; omega

/-- One step of the search: is `t` at least the power with `b` added to the exponent? -/
def step (t : EReal) (e b : ℕ) : ℕ := if pw (min (e + b) 253) ≤ t then e + b else e

/-- The search for the exponent field of `t`. -/
def ladder (t : EReal) : ℕ := step t (step t (step t (step t (step t (step t (step t (step t 0 128) 64) 32) 16) 8) 4) 2) 1

/-- What holds of a search state with `r` still undecided. -/
def Inv (t : EReal) (r e : ℕ) : Prop :=
  e + r ≤ 256 ∧ (e = 0 ∨ pw (min e 253) ≤ t) ∧ (256 ≤ e + r ∨ ¬pw (min (e + r) 253) ≤ t)

theorem inv_step (t : EReal) (b e : ℕ) (h : Inv t (2 * b) e) : Inv t b (step t e b) := by
  obtain ⟨h0, h1, h2⟩ := h
  unfold step
  split
  · next hp => exact ⟨by omega, .inr hp, by rw [show e + b + b = e + 2 * b by ring]; exact h2⟩
  · next hp => exact ⟨by omega, h1, .inr hp⟩

theorem inv_ladder (t : EReal) : Inv t 1 (ladder t) := by
  unfold ladder
  exact inv_step t 1 _ (inv_step t 2 _ (inv_step t 4 _ (inv_step t 8 _ (inv_step t 16 _ (inv_step t 32 _ (inv_step t 64 _
    (inv_step t 128 _ ⟨by norm_num, .inl rfl, .inl (by norm_num)⟩)))))))

theorem ladder_le (t : EReal) : ladder t ≤ 255 := by have := (inv_ladder t).1; omega

/-- In the normal range the search finds the exponent. -/
theorem ladder_normal (t : EReal) (h1 : pw 1 ≤ t) (h2 : t < pw 253) :
    1 ≤ ladder t ∧ ladder t ≤ 252 ∧ pw (ladder t) ≤ t ∧ t < pw (ladder t + 1) := by
  obtain ⟨a, b, c⟩ := inv_ladder t
  have hz : ladder t ≠ 0 := by
    intro hz; rw [hz] at c
    rcases c with c | c
    · omega
    · exact c h1
  have hb := b.resolve_left hz
  have hle : ladder t ≤ 252 := by
    by_contra hh
    rw [show min (ladder t) 253 = 253 by omega] at hb
    exact absurd (lt_of_lt_of_le h2 hb) (lt_irrefl _)
  have hc := c.resolve_left (by omega)
  rw [show min (ladder t) 253 = ladder t by omega] at hb
  rw [show min (ladder t + 1) 253 = ladder t + 1 by omega] at hc
  exact ⟨by omega, hle, hb, not_le.mp hc⟩

/-- Below it the search stays at zero. -/
theorem ladder_small (t : EReal) (h : t < pw 1) : ladder t = 0 := by
  obtain ⟨a, b, c⟩ := inv_ladder t
  by_contra hz
  have hb := b.resolve_left hz
  have := pw_le 1 (min (ladder t) 253) (by norm_num) (by omega) (by omega)
  exact absurd (lt_of_lt_of_le h (this.trans hb)) (lt_irrefl _)

/-- Above it the search ends at all ones. -/
theorem ladder_large (t : EReal) (h : pw 253 ≤ t) : ladder t = 255 := by
  obtain ⟨a, b, c⟩ := inv_ladder t
  by_contra hz
  have hc := c.resolve_left (by omega)
  exact hc ((pw_le (min (ladder t + 1) 253) 253 (by omega) (by omega) (by norm_num)).trans h)

/-- The exponent the kernel uses: the field found, with 126 in place of 0 and 255. -/
def expo (t : EReal) : ℕ := if ladder t = 0 ∨ ladder t = 255 then 126 else ladder t

theorem expo_range (t : EReal) : 1 ≤ expo t ∧ expo t ≤ 252 := by
  unfold expo
  split
  · omega
  · next h =>
    rw [not_or] at h
    rcases lt_or_ge t (pw 1) with h1 | h1
    · exact absurd (ladder_small t h1) h.1
    · rcases lt_or_ge t (pw 253) with h2 | h2
      · have := ladder_normal t h1 h2; omega
      · exact absurd (ladder_large t h2) h.2

/-- The least power of two above `t`, among `2^(−125) … 2^126`. -/
theorem least_above (t : EReal) (h1 : pw 1 ≤ t) (h2 : t < pw 253) :
    Finset.fold min ⊤ (fun x : Fin 252 => if t < pw (x.val + 2) then pw (x.val + 2) else ⊤) Finset.univ = pw (expo t + 1) := by
  obtain ⟨a, b, c, d⟩ := ladder_normal t h1 h2
  have he : expo t = ladder t := by unfold expo; rw [if_neg (by omega)]
  rw [he]
  apply le_antisymm
  · refine Finset.fold_min_le (c := pw (ladder t + 1)) |>.mpr (.inr ⟨⟨ladder t - 1, by omega⟩, Finset.mem_univ _, ?_⟩)
    show (if t < pw (ladder t - 1 + 2) then pw (ladder t - 1 + 2) else ⊤) ≤ _
    rw [show ladder t - 1 + 2 = ladder t + 1 by omega, if_pos d]
  · refine Finset.le_fold_min (c := pw (ladder t + 1)) |>.mpr ⟨le_top, fun x _ => ?_⟩
    split
    · next hx =>
      by_contra hlt
      have hx' := x.isLt
      have : pw (x.val + 2) ≤ pw (ladder t) := by
        by_contra hh
        have : ¬ (x.val + 2 ≤ ladder t) := fun hle => hh (pw_le _ _ (by omega) hle (by omega))
        exact hlt (pw_le _ _ (by omega) (by omega) (by omega))
      exact absurd (lt_of_lt_of_le hx (this.trans c)) (lt_irrefl _)
    · exact le_top

/-- The reference's scale as a power of two. -/
theorem scale_eq (t : EReal) :
    (if pw 1 ≤ t ∧ t < pw 253 then
      Finset.fold min ⊤ (fun x : Fin 252 => if t < pw (x.val + 2) then pw (x.val + 2) else ⊤) Finset.univ else 1) = pw (expo t + 1) := by
  by_cases h1 : pw 1 ≤ t
  · by_cases h2 : t < pw 253
    · rw [if_pos ⟨h1, h2⟩, least_above t h1 h2]
    · rw [if_neg (by tauto)]
      have : expo t = 126 := by unfold expo; rw [ladder_large t (not_lt.mp h2)]; simp
      rw [this, pw_one_127]
  · rw [if_neg (by tauto)]
    have : expo t = 126 := by unfold expo; rw [ladder_small t (not_le.mp h1)]; simp
    rw [this, pw_one_127]

end HandPowers

end
-- ==== Proof.Quant.lean ====
/- The quantiser of one block of 128 values, over the extended reals. -/
module

public import proofs.«01_k».proof.Proof.Powers

@[expose] public section

noncomputable section

namespace HandPowers

open Idealize.ShloMosaic

/-- silu(g) · u. -/
def hval (g u : EReal) : EReal := g * Ideal.logistic g * u

/-- The largest magnitude of the block, over 448. -/
def qT (h : Fin 128 → EReal) : EReal :=
  Finset.fold max (Ideal.ofBits .f32 4286578688#32) (fun x => FloatOps.absf (F := Ideal) (φ := .f32) (h x)) Finset.univ * Ideal.ofBits .f32 991054117#32

/-- The block's scale. -/
def qScale (h : Fin 128 → EReal) : EReal := pw (expo (qT h) + 1)

/-- The block's codes. -/
def qCode (h : Fin 128 → EReal) (l : Fin 128) : EReal :=
  min (Ideal.ofBits .f32 1138753536#32) (max (Ideal.ofBits .f32 3286237184#32) (h l * pw (253 - expo (qT h))))

end HandPowers

end
-- ==== Proof.KQuant.lean ====
/- The kernel's quantiser at an element: the exponent search, the scale and the codes. -/
module

public import proofs.«01_k».proof.Proof.KRuns
public import proofs.«01_k».proof.Proof.Quant
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open HandPowers

/-- One step of the exponent search over a column. -/
def vstep (t : FVec F S512x1 .f32) (e : IVec S512x1 32) (b : BitVec 32) : IVec S512x1 32 :=
  select (cmpf .oge t (bitcastToFloat .f32 (shli (minsi (addi e (broadcast S512x1 b)) (broadcast S512x1 253#32)) (broadcast S512x1 23#32))))
    (addi e (broadcast S512x1 b)) e

/-- The field found, with 126 in place of 0 and 255. -/
def vfix (e : IVec S512x1 32) : IVec S512x1 32 :=
  select (ori (cmpi .eq e (broadcast S512x1 0#32)) (cmpi .eq e (broadcast S512x1 255#32))) (broadcast S512x1 126#32) e

/-- The exponent search over a column. -/
def vexpo (t : FVec F S512x1 .f32) : IVec S512x1 32 :=
  vfix (vstep t (vstep t (vstep t (vstep t (vstep t (vstep t (vstep t (vstep t (broadcast S512x1 0#32) 128#32) 64#32) 32#32) 16#32) 8#32) 4#32) 2#32) 1#32)

theorem word_power : ∀ n : Fin 256, ∀ i : Fin 8, n.val + 2 ^ i.val ≤ 255 →
    IntOp.shli .vector (IntOp.minsi (IntOp.addi (BitVec.ofNat 32 n.val) (BitVec.ofNat 32 (2 ^ i.val))) 253#32) 23#32
      = BitVec.ofNat 32 (min (n.val + 2 ^ i.val) 253 * 2 ^ 23) := by decide +kernel

/-- One step of the search, as numbers. -/
theorem vstep_apply (t : Vec Ideal S512x1 .f32) (e : IVec S512x1 32) (r : Fin 512) (n i : ℕ) (hi : i < 8)
    (h : e (ix2 r 0) = BitVec.ofNat 32 n ∧ Inv (t (ix2 r 0)) (2 * 2 ^ i) n) :
    vstep (F := Ideal) t e (BitVec.ofNat 32 (2 ^ i)) (ix2 r 0) = BitVec.ofNat 32 (step (t (ix2 r 0)) n (2 ^ i))
      ∧ Inv (t (ix2 r 0)) (2 ^ i) (step (t (ix2 r 0)) n (2 ^ i)) := by
  obtain ⟨he, hI⟩ := h
  have hpos : 0 < 2 ^ i := Nat.two_pow_pos i
  have hle := hI.1
  refine ⟨?_, inv_step _ _ _ hI⟩
  pointwise [vstep]
  rw [he, word_power ⟨n, by omega⟩ ⟨i, hi⟩ (by show n + 2 ^ i ≤ 255; omega)]
  unfold step pw
  split
  · simp only [IntOp.addi, BitVec.ofNat_add]
  · rfl

theorem fix_word : ∀ n : Fin 256, Scalar.select (IntOp.ori (IntOp.cmpi .eq (BitVec.ofNat 32 n.val) 0#32) (IntOp.cmpi .eq (BitVec.ofNat 32 n.val) 255#32)) 126#32 (BitVec.ofNat 32 n.val)
    = BitVec.ofNat 32 (if n.val = 0 ∨ n.val = 255 then 126 else n.val) := by decide +kernel

/-- The search finds `expo`. -/
theorem vexpo_apply (t : Vec Ideal S512x1 .f32) (r : Fin 512) :
    vexpo (F := Ideal) t (ix2 r 0) = BitVec.ofNat 32 (expo (t (ix2 r 0))) := by
  have h0 : (broadcast S512x1 0#32 : IVec S512x1 32) (ix2 r 0) = BitVec.ofNat 32 0 ∧ Inv (t (ix2 r 0)) (2 * 2 ^ 7) 0 :=
    ⟨rfl, by norm_num, .inl rfl, .inl (by norm_num)⟩
  have h := vstep_apply t _ r _ 0 (by norm_num) (vstep_apply t _ r _ 1 (by norm_num) (vstep_apply t _ r _ 2 (by norm_num) (vstep_apply t _ r _ 3 (by norm_num)
    (vstep_apply t _ r _ 4 (by norm_num) (vstep_apply t _ r _ 5 (by norm_num) (vstep_apply t _ r _ 6 (by norm_num) (vstep_apply t _ r _ 7 (by norm_num) h0)))))))
  have hl := ladder_le (t (ix2 r 0))
  have e := h.1
  unfold vexpo
  refine Eq.trans ?_ (fix_word ⟨ladder (t (ix2 r 0)), by omega⟩)
  show Scalar.select _ _ _ = _
  exact congrArg (fun w : BitVec 32 => Scalar.select (IntOp.ori (IntOp.cmpi .eq w 0#32) (IntOp.cmpi .eq w 255#32)) 126#32 w) e

theorem word_scale : ∀ n : Fin 253, IntOp.shli .vector (IntOp.addi (BitVec.ofNat 32 n.val) 1#32) 23#32 = BitVec.ofNat 32 ((n.val + 1) * 2 ^ 23) := by
  decide +kernel

theorem word_inv : ∀ n : Fin 253, IntOp.shli .vector (IntOp.subi 253#32 (BitVec.ofNat 32 n.val)) 23#32 = BitVec.ofNat 32 ((253 - n.val) * 2 ^ 23) := by
  decide +kernel

theorem searchL (g u : Vec F S512x128 .f32) :
    k0_pay10 (k0_pay5 g u) (k0_pay8 (k0_pay5 g u) (k0_pay6 g u) (k0_pay7 g u) 23#32) (k0_pay9 (k0_pay5 g u) (k0_pay6 g u) (k0_pay7 g u) 23#32) 23#32
      = vexpo (k0_pay5 g u) := rfl

theorem searchR (g u : Vec F S512x128 .f32) :
    k0_pay20 (k0_pay15 g u) (k0_pay18 (k0_pay15 g u) (k0_pay16 g u) (k0_pay17 g u)) (k0_pay19 (k0_pay15 g u) (k0_pay16 g u) (k0_pay17 g u))
      = vexpo (k0_pay15 g u) := rfl

theorem topL (g u : Vec Ideal S512x128 .f32) (r : Fin 512) :
    k0_pay5 (F := Ideal) g u (ix2 r 0) = qT (fun x => hval (g (ix2 r x)) (u (ix2 r x))) := by
  pointwise [k0_pay5, k0_pay4]
  rfl

/-- The scale of a row's half. -/
theorem scaleL_apply (g u : Vec Ideal S512x128 .f32) (r : Fin 512) :
    scaleL (F := Ideal) g u (ix2 r 0) = qScale (fun x => hval (g (ix2 r x)) (u (ix2 r x))) := by
  have hx := expo_range (k0_pay5 (F := Ideal) g u (ix2 r 0))
  pointwise [scaleL, k0_pay11]
  rw [searchL, vexpo_apply, word_scale ⟨expo (k0_pay5 (F := Ideal) g u (ix2 r 0)), by omega⟩]
  unfold qScale
  rw [← topL]; rfl

/-- The codes of a row's half. -/
theorem codesL_apply (g u : Vec Ideal S512x128 .f32) (r : Fin 512) (l : Fin 128) :
    codesL (F := Ideal) g u (ix2 r l) = qCode (fun x => hval (g (ix2 r x)) (u (ix2 r x))) l := by
  have hx := expo_range (k0_pay5 (F := Ideal) g u (ix2 r 0))
  pointwise [codesL, k0_pay12, k0_pay4]
  rw [searchL, vexpo_apply, word_inv ⟨expo (k0_pay5 (F := Ideal) g u (ix2 r 0)), by omega⟩]
  unfold qCode
  rw [← topL]; rfl

theorem topR (g u : Vec Ideal S512x128 .f32) (r : Fin 512) :
    k0_pay15 (F := Ideal) g u (ix2 r 0) = qT (fun x => hval (g (ix2 r x)) (u (ix2 r x))) := by
  pointwise [k0_pay15, k0_pay14]
  rfl

/-- The scale of a row's half. -/
theorem scaleR_apply (g u : Vec Ideal S512x128 .f32) (r : Fin 512) :
    scaleR (F := Ideal) g u (ix2 r 0) = qScale (fun x => hval (g (ix2 r x)) (u (ix2 r x))) := by
  have hx := expo_range (k0_pay15 (F := Ideal) g u (ix2 r 0))
  pointwise [scaleR, k0_pay21]
  rw [searchR, vexpo_apply, word_scale ⟨expo (k0_pay15 (F := Ideal) g u (ix2 r 0)), by omega⟩]
  unfold qScale
  rw [← topR]; rfl

/-- The codes of a row's half. -/
theorem codesR_apply (g u : Vec Ideal S512x128 .f32) (r : Fin 512) (l : Fin 128) :
    codesR (F := Ideal) g u (ix2 r l) = qCode (fun x => hval (g (ix2 r x)) (u (ix2 r x))) l := by
  have hx := expo_range (k0_pay15 (F := Ideal) g u (ix2 r 0))
  pointwise [codesR, k0_pay22, k0_pay14]
  rw [searchR, vexpo_apply, word_inv ⟨expo (k0_pay15 (F := Ideal) g u (ix2 r 0)), by omega⟩]
  unfold qCode
  rw [← topR]; rfl

end Cert.KernelIdeal.Hand

end
-- ==== Proof.RDefs.lean ====
/- The reference's results in stages: projection, activation, block maximum, scale, codes. -/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The low nibbles' weights: (code & 15 − 8) times the group scale. -/
def lowW (w : Vec F S6144x28672 .i8) (s : Vec F S96x28672 .bf16) : Vec F S6144x28672 .bf16 :=
  mulf (subf (sitofp .bf16 (andi (extui 32 w natLt_8_32) (broadcastInDim S6144x28672 ![] bcast_S_S6144x28672 (constantI S_ 32 15#32))))
    (broadcastInDim S6144x28672 ![] bcast_S_S6144x28672 (constant S_ .bf16 0x4100#16)))
    (shapeCast _ (broadcastInDim S96x64x28672 ![0, 2] bcast_S96x28672_S96x64x28672_0_2 s) shapeCasts_S96x64x28672_S6144x28672)

/-- The high nibbles' weights: (code >> 4 − 8) times the group scale. -/
def highW (w : Vec F S6144x28672 .i8) (s : Vec F S96x28672 .bf16) : Vec F S6144x28672 .bf16 :=
  mulf (subf (sitofp .bf16 (Host.shrsi (extui 32 w natLt_8_32) (broadcastInDim S6144x28672 ![] bcast_S_S6144x28672 (constantI S_ 32 4#32))))
    (broadcastInDim S6144x28672 ![] bcast_S_S6144x28672 (constant S_ .bf16 0x4100#16)))
    (shapeCast _ (broadcastInDim S96x64x28672 ![0, 2] bcast_S96x28672_S96x64x28672_0_2 s) shapeCasts_S96x64x28672_S6144x28672)

/-- One int4 projection. -/
def proj (x : Vec F S1x512x12288 .bf16) (w : Vec F S6144x28672 .i8) (s : Vec F S96x28672 .bf16) : Vec F S1x512x28672 .f32 :=
  addf (Host.dotGeneral dot_S1x512x6144_S6144x28672_S1x512x28672_2_0_01_1_n_n none
      (Host.slice S1x512x6144 ![0, 0, 0] ![1, 1, 2] x slicesBy_S1x512x12288_S1x512x6144_0s1_0s1_0s2) (lowW w s))
    (Host.dotGeneral dot_S1x512x6144_S6144x28672_S1x512x28672_2_0_01_1_n_n none
      (Host.slice S1x512x6144 ![0, 0, 1] ![1, 1, 2] x slicesBy_S1x512x12288_S1x512x6144_0s1_0s1_1s2) (highW w s))

/-- silu(gate) · up, in blocks of 128 lanes. -/
def act (g u : Vec F S1x512x28672 .f32) : Vec F S1x512x224x128 .f32 :=
  shapeCast _ (mulf (mulf g
    (Host.divf (broadcastInDim S1x512x28672 ![] bcast_S_S1x512x28672 (constant S_ .f32 0x3F800000#32))
      (addf (broadcastInDim S1x512x28672 ![] bcast_S_S1x512x28672 (constant S_ .f32 0x3F800000#32)) (Host.exp (Host.negf g))))) u)
    shapeCasts_S1x512x28672_S1x512x224x128

/-- The largest magnitude of a block, over 448. -/
def blockMax (h : Vec F S1x512x224x128 .f32) : Vec F S1x512x224 .f32 :=
  mulf (Host.reduce FloatOps.maximumf (Host.absf h) (constant S_ .f32 0xFF800000#32) reducesTo_S1x512x224x128_S1x512x224_d3 h_S_)
    (broadcastInDim S1x512x224 ![] bcast_S_S1x512x224 (constant S_ .f32 0x3B124925#32))

/-- The powers of two 2^(i−125). -/
def powers : Vec F S252 .f32 :=
  Host.powf (broadcastInDim S252 ![] bcast_S_S252 (constant S_ .f32 0x40000000#32))
    (subf (sitofp .f32 (iotaInDim S252 32 0)) (broadcastInDim S252 ![] bcast_S_S252 (constant S_ .f32 0x42FA0000#32)))

/-- The least power of two above each entry. -/
def above (t : Vec F S1x512x224 .f32) : Vec F S1x512x224 .f32 :=
  Host.reduce FloatOps.minimumf (select (cmpf .ogt
      (broadcastInDim S1x512x224x252 ![0, 1, 2, 3] bcast_S1x1x1x252_S1x512x224x252_0_1_2_3 (broadcastInDim S1x1x1x252 ![3] bcast_S252_S1x1x1x252_3 powers))
      (broadcastInDim S1x512x224x252 ![0, 1, 2, 3] bcast_S1x512x224x1_S1x512x224x252_0_1_2_3
        (broadcastInDim S1x512x224x1 ![0, 1, 2] bcast_S1x512x224_S1x512x224x1_0_1_2 t)))
      (broadcastInDim S1x512x224x252 ![3] bcast_S252_S1x512x224x252_3 powers)
      (broadcastInDim S1x512x224x252 ![] bcast_S_S1x512x224x252 (id (constant S_ .f32 0x7F800000#32))))
    (constant S_ .f32 0x7F800000#32) reducesTo_S1x512x224x252_S1x512x224_d3 h_S_

/-- The block scale. -/
def scale (t : Vec F S1x512x224 .f32) : Vec F S1x512x224 .f32 :=
  select (andi (cmpf .oge t (broadcastInDim S1x512x224 ![] bcast_S_S1x512x224 (constant S_ .f32 0x00800000#32)))
      (cmpf .olt t (broadcastInDim S1x512x224 ![] bcast_S_S1x512x224 (constant S_ .f32 0x7E800000#32))))
    (above t) (broadcastInDim S1x512x224 ![] bcast_S_S1x512x224 (id (constant S_ .f32 0x3F800000#32)))

/-- The 8-bit codes: h over the block scale, clipped to ±448. -/
def codes (h : Vec F S1x512x224x128 .f32) (s : Vec F S1x512x224 .f32) : Vec F S512x28672 .fp8e4m3 :=
  shapeCast _ (Host.convertf .fp8e4m3 (minimumf (broadcastInDim S1x512x224x128 ![] bcast_S_S1x512x224x128 (id (constant S_ .f32 0x43E00000#32)))
    (maximumf (broadcastInDim S1x512x224x128 ![] bcast_S_S1x512x224x128 (id (constant S_ .f32 0xC3E00000#32)))
      (mulf h (broadcastInDim S1x512x224x128 ![0, 1, 2, 3] bcast_S1x512x224x1_S1x512x224x128_0_1_2_3
        (broadcastInDim S1x512x224x1 ![0, 1, 2] bcast_S1x512x224_S1x512x224x1_0_1_2
          (Host.divf (broadcastInDim S1x512x224 ![] bcast_S_S1x512x224 (constant S_ .f32 0x3F800000#32)) s)))))))
    shapeCasts_S1x512x224x128_S512x28672

variable (m : (ℓ : Loc nD τ sig) → Buf (Elt F) ℓ)

/-- The reference's activation of its arguments. -/
def actOf (c : Dev nD) : Vec F S1x512x224x128 .f32 :=
  act (proj (m ((c.tc : Thread nD τ).loc main_arg0)) (m ((c.tc : Thread nD τ).loc main_arg1)) (m ((c.tc : Thread nD τ).loc main_arg2)))
    (proj (m ((c.tc : Thread nD τ).loc main_arg0)) (m ((c.tc : Thread nD τ).loc main_arg3)) (m ((c.tc : Thread nD τ).loc main_arg4)))

/-- The reference's codes. -/
theorem codes_eq (c : Dev nD) : Value.res_main_v70 m c = codes (actOf m c) (scale (blockMax (actOf m c))) := rfl

/-- The reference's scales. -/
theorem scales_eq (c : Dev nD) :
    Value.res_main_v71 m c = shapeCast _ (scale (blockMax (actOf m c))) shapeCasts_S1x512x224_S512x224 := rfl

end Cert.ReferenceIdeal.Hand

end
-- ==== Proof.RProj.lean ====
/- The reference's projection at an element. -/
module

public import proofs.«01_k».proof.Proof.RDefs
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

/-- The projection at an element: the even columns of x against the low nibbles, the odd ones against the high nibbles. -/
theorem proj_apply (x : Vec Ideal S1x512x12288 .bf16) (w : Vec Ideal S6144x28672 .i8) (s : Vec Ideal S96x28672 .bf16) (r : Fin 512) (j : Fin 28672) :
    proj x w s (ix3 0 r j) = (∑ k : Fin 6144, x (ix3 0 r ⟨2 * k.val, by omega⟩) *
        ((FloatOps.sitofp (F := Ideal) FTy.bf16 (IntOp.andi (BitVec.setWidth 32 (w (ix2 k j))) 15#32) - Ideal.ofBits FTy.bf16 16640#16) * s (ix2 ⟨k.val / 64, by omega⟩ j)))
      + ∑ k : Fin 6144, x (ix3 0 r ⟨1 + 2 * k.val, by omega⟩) *
        ((FloatOps.sitofp (F := Ideal) FTy.bf16 (IntOp.shrsi ArithUnit.host (BitVec.setWidth 32 (w (ix2 k j))) 4#32) - Ideal.ofBits FTy.bf16 16640#16) * s (ix2 ⟨k.val / 64, by omega⟩ j)) := by
  pointwise [proj, lowW, highW]

end Cert.ReferenceIdeal.Hand

end
-- ==== Proof.RAct.lean ====
/- The reference's activation at an element. -/
module

public import proofs.«01_k».proof.Proof.RDefs
public import proofs.«01_k».proof.Proof.Quant
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

open HandPowers

/-- The activation at an element. -/
theorem act_apply (g u : Vec Ideal S1x512x28672 .f32) (r : Fin 512) (b : Fin 224) (l : Fin 128) :
    act g u (ix4 0 r b l) = hval (g (ix3 0 r ⟨b.val * 128 + l.val, by omega⟩)) (u (ix3 0 r ⟨b.val * 128 + l.val, by omega⟩)) := by
  pointwise [act]
  rfl

end Cert.ReferenceIdeal.Hand

end
-- ==== Proof.RMax.lean ====
/- The reference's block maximum at an element. -/
module

public import proofs.«01_k».proof.Proof.RDefs
public import proofs.«01_k».proof.Proof.Quant
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

open HandPowers

/-- The maximum over a block's lanes. -/
theorem reduceMax_apply (v : Vec Ideal S1x512x224x128 .f32) (r : Fin 512) (b : Fin 224) :
    (Host.reduce (FloatOps.maximumf (F := Ideal) (φ := .f32)) v (constant (F := Ideal) S_ .f32 0xFF800000#32) reducesTo_S1x512x224x128_S1x512x224_d3 h_S_ : Vec Ideal S1x512x224 .f32) (ix3 0 r b)
      = Finset.fold max (Ideal.ofBits .f32 4286578688#32) (fun x => v (ix4 0 r b x)) Finset.univ := by
  pointwise

theorem absf_apply (v : Vec Ideal S1x512x224x128 .f32) (r : Fin 512) (b : Fin 224) (x : Fin 128) :
    Host.absf (F := Ideal) v (ix4 0 r b x) = FloatOps.absf (F := Ideal) (φ := .f32) (v (ix4 0 r b x)) := by
  pointwise

theorem blockMax_apply (h : Vec Ideal S1x512x224x128 .f32) (r : Fin 512) (b : Fin 224) :
    blockMax h (ix3 0 r b) = qT (fun l => h (ix4 0 r b l)) := by
  unfold blockMax
  rw [mulf_apply, reduceMax_apply]
  unfold qT
  simp only [absf_apply]
  rfl

end Cert.ReferenceIdeal.Hand

end
-- ==== Proof.RCodes.lean ====
/- The reference's codes at an element. -/
module

public import proofs.«01_k».proof.Proof.RDefs
public import proofs.«01_k».proof.Proof.Quant
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

open HandPowers

/-- The codes at an element. -/
theorem codes_apply (h : Vec Ideal S1x512x224x128 .f32) (s : Vec Ideal S1x512x224 .f32) (r : Fin 512) (j : Fin 28672) :
    codes h s (ix2 r j) = min (Ideal.ofBits .f32 1138753536#32) (max (Ideal.ofBits .f32 3286237184#32)
      (h (ix4 0 r ⟨j.val / 128, by omega⟩ ⟨j.val % 128, by omega⟩) * Ideal.div 1 (s (ix3 0 r ⟨j.val / 128, by omega⟩)))) := by
  pointwise [codes]
  rfl

/-- The scales, the leading unit axis dropped. -/
theorem scaleCast_apply (s : Vec Ideal S1x512x224 .f32) (r : Fin 512) (j : Fin 224) :
    (shapeCast _ s shapeCasts_S1x512x224_S512x224 : Vec Ideal S512x224 .f32) (ix2 r j) = s (ix3 0 r j) := by
  pointwise

end Cert.ReferenceIdeal.Hand

end
-- ==== Proof.RScale.lean ====
/- The reference's scale at an element. -/
module

public import proofs.«01_k».proof.Proof.RDefs
public import proofs.«01_k».proof.Proof.Quant
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

open HandPowers

theorem two_bits : Ideal.ofBits .f32 1073741824#32 = ((2 : ℝ) : EReal) := by
  have h := pw_eq 128 (by norm_num) (by norm_num)
  rw [show ((2 : ℝ) ^ (((128 : ℕ) : ℤ) - 127)) = 2 by norm_num] at h
  exact h

theorem offset_bits : Ideal.ofBits .f32 1123680256#32 = ((125 : ℝ) : EReal) := by
  simp [Ideal.ofBits, Ideal.ieee, -EReal.coe_mul]; norm_num

theorem top_bits : Ideal.ofBits .f32 2139095040#32 = ⊤ := by
  simp [Ideal.ofBits, Ideal.ieee]

/-- The reference's powers of two. -/
theorem power_eq (x : Fin 252) : Ideal.pow (Ideal.ofBits .f32 1073741824#32)
    (FloatOps.sitofp (F := Ideal) .f32 (BitVec.ofNat 32 x.val) - Ideal.ofBits .f32 1123680256#32) = pw (x.val + 2) := by
  have hx := x.isLt
  have e : FloatOps.sitofp (F := Ideal) .f32 (BitVec.ofNat 32 x.val) = ((x.val : ℝ) : EReal) := by
    show (((BitVec.ofNat 32 x.val).toInt : ℝ) : EReal) = _
    rw [(by decide +kernel : ∀ x : Fin 252, (BitVec.ofNat 32 x.val).toInt = (x.val : ℤ)) x]
    norm_num
  rw [e, two_bits, offset_bits, pw_eq (x.val + 2) (by omega) (by omega), ← EReal.coe_sub]
  show ((Real.rpow 2 _ : ℝ) : EReal) = _
  congr 1
  show (2 : ℝ) ^ ((x.val : ℝ) - 125) = _
  rw [← Real.rpow_intCast]
  congr 1
  push_cast; ring

/-- The scale at an element: the power of two above it. -/
theorem scale_apply (t : Vec Ideal S1x512x224 .f32) (r : Fin 512) (b : Fin 224) :
    scale t (ix3 0 r b) = pw (expo (t (ix3 0 r b)) + 1) := by
  rw [← scale_eq]
  pointwise [scale, above, powers]
  simp only [power_eq, top_bits]
  have e1 : Ideal.ofBits .f32 8388608#32 = pw 1 := rfl
  have e2 : Ideal.ofBits .f32 2122317824#32 = pw 253 := rfl
  have e3 : id (constant (F := Ideal) S_ .f32 1065353216#32) ix0 = 1 := Ideal.ofBits_one_f32
  have e4 : id (constant (F := Ideal) S_ .f32 2139095040#32) ix0 = ⊤ := top_bits
  rw [e1, e2, e3, e4]
  by_cases h1 : pw 1 ≤ t (ix3 0 r b)
  · by_cases h2 : t (ix3 0 r b) < pw 253
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]
    by_cases h2 : t (ix3 0 r b) < pw 253
    · rw [decide_eq_true h2]; rfl
    · rw [decide_eq_false h2]; rfl

end Cert.ReferenceIdeal.Hand

end
-- ==== Proof.Values.lean ====
/- Both results of the kernel are the reference's, array against array. -/
module

public import proofs.«01_k».proof.Proof.KProj
public import proofs.«01_k».proof.Proof.KQuant
public import proofs.«01_k».proof.Proof.RProj
public import proofs.«01_k».proof.Proof.RAct
public import proofs.«01_k».proof.Proof.RMax
public import proofs.«01_k».proof.Proof.RCodes
public import proofs.«01_k».proof.Proof.RScale

@[expose] public section

set_option maxRecDepth 16384

noncomputable section

namespace Cert.Values

open Idealize.ShloMosaic Idealize.ShloMosaic.TcCoe
open HandPowers HandProj
open Cert.KernelIdeal (S1x512x12288 S6144x28672 S96x28672 S512x28672 S512x224 S512x256 S512x128 nD τ sig)
open Cert.KernelIdeal.Hand (lowTerm highTerm argX argW1 argS1 argW3 argS3 gFin uFin halfL halfR CodesAre ScalesAre)
open Cert.ReferenceIdeal (S1x512x224x128 S1x512x224)
open Cert.ReferenceIdeal.Hand (proj act blockMax scale codes)

/-- The int4 projection at an element. -/
def proj4 (x : Vec Ideal S1x512x12288 .bf16) (w : Vec Ideal S6144x28672 .i8) (s : Vec Ideal S96x28672 .bf16) (r : Fin 512) (j : Fin 28672) : EReal :=
  (∑ k, lowTerm x w s r j k) + ∑ k, highTerm x w s r j k

/-- The activation of row `r` in the block of 128 columns `b`. -/
def rowBlock (x : Vec Ideal S1x512x12288 .bf16) (w1 w3 : Vec Ideal S6144x28672 .i8) (s1 s3 : Vec Ideal S96x28672 .bf16) (r : Fin 512) (b : Fin 224) (l : Fin 128) : EReal :=
  hval (proj4 x w1 s1 r ⟨b.val * 128 + l.val, by omega⟩) (proj4 x w3 s3 r ⟨b.val * 128 + l.val, by omega⟩)

/-- The reference's activation, a block of a row at a time. -/
theorem act_rowBlock (x : Vec Ideal S1x512x12288 .bf16) (w1 w3 : Vec Ideal S6144x28672 .i8) (s1 s3 : Vec Ideal S96x28672 .bf16) (r : Fin 512) (b : Fin 224) :
    (fun l : Fin 128 => act (proj x w1 s1) (proj x w3 s3) (ix4 0 r b l)) = rowBlock x w1 w3 s1 s3 r b := by
  funext l
  rw [Cert.ReferenceIdeal.Hand.act_apply, Cert.ReferenceIdeal.Hand.proj_apply, Cert.ReferenceIdeal.Hand.proj_apply]
  rfl

/-- The reference's codes are the quantised row blocks. -/
theorem ref_codes (h : Vec Ideal S1x512x224x128 .f32) (r : Fin 512) (j : Fin 28672) :
    codes h (scale (blockMax h)) (ix2 r j) = qCode (fun l => h (ix4 0 r ⟨j.val / 128, by omega⟩ l)) ⟨j.val % 128, by omega⟩ := by
  rw [Cert.ReferenceIdeal.Hand.codes_apply, Cert.ReferenceIdeal.Hand.scale_apply, Cert.ReferenceIdeal.Hand.blockMax_apply]
  have e := expo_range (qT fun l => h (ix4 0 r ⟨j.val / 128, by omega⟩ l))
  rw [div_pw _ (by omega) (by omega)]
  unfold qCode
  rw [show ∀ k : ℕ, 254 - (k + 1) = 253 - k from fun k => by omega]

/-- The reference's scales are the row blocks' scales. -/
theorem ref_scales (h : Vec Ideal S1x512x224x128 .f32) (r : Fin 512) (b : Fin 224) :
    scale (blockMax h) (ix3 0 r b) = qScale (fun l => h (ix4 0 r b l)) := by
  rw [Cert.ReferenceIdeal.Hand.scale_apply, Cert.ReferenceIdeal.Hand.blockMax_apply]
  rfl

theorem halfL_apply (a : Vec Ideal S512x256 .f32) (r : Fin 512) (l : Fin 128) : halfL a (ix2 r l) = a (ix2 r ⟨l.val, by omega⟩) := by
  show a _ = _
  refine congrArg a ?_
  funext d; apply Fin.ext; fin_cases d
  · show 0 + 1 * r.val = r.val; omega
  · show 0 + 1 * l.val = l.val; omega

theorem halfR_apply (a : Vec Ideal S512x256 .f32) (r : Fin 512) (l : Fin 128) : halfR a (ix2 r l) = a (ix2 r ⟨128 + l.val, by omega⟩) := by
  show a _ = _
  refine congrArg a ?_
  funext d; apply Fin.ext; fin_cases d
  · show 0 + 1 * r.val = r.val; omega
  · show 128 + 1 * l.val = 128 + l.val; omega

variable (m : (ℓ : Loc nD τ sig) → Buf (Elt Ideal) ℓ)

/-- The row blocks at the kernel's arguments. -/
abbrev rows (c : Dev nD) (r : Fin 512) (b : Fin 224) : Fin 128 → EReal :=
  rowBlock (argX m c) (argW1 m c) (argW3 m c) (argS1 m c) (argS3 m c) r b

/-- The left half of column block `n` holds the even row block. -/
theorem left_rows (c : Dev nD) (n : Fin 112) (r : Fin 512) (b : Fin 224) (hb : b.val = 2 * n.val) :
    (fun x : Fin 128 => hval (halfL (gFin m c n) (ix2 r x)) (halfL (uFin m c n) (ix2 r x))) = rows m c r b := by
  funext l
  rw [halfL_apply, halfL_apply,
    Cert.KernelIdeal.Hand.gFin_apply m c n r ⟨l.val, by omega⟩ ⟨b.val * 128 + l.val, by omega⟩ (by show b.val * 128 + l.val = 256 * n.val + l.val; omega),
    Cert.KernelIdeal.Hand.uFin_apply m c n r ⟨l.val, by omega⟩ ⟨b.val * 128 + l.val, by omega⟩ (by show b.val * 128 + l.val = 256 * n.val + l.val; omega)]
  rfl

/-- The right half of column block `n` holds the odd row block. -/
theorem right_rows (c : Dev nD) (n : Fin 112) (r : Fin 512) (b : Fin 224) (hb : b.val = 2 * n.val + 1) :
    (fun x : Fin 128 => hval (halfR (gFin m c n) (ix2 r x)) (halfR (uFin m c n) (ix2 r x))) = rows m c r b := by
  funext l
  rw [halfR_apply, halfR_apply,
    Cert.KernelIdeal.Hand.gFin_apply m c n r ⟨128 + l.val, by omega⟩ ⟨b.val * 128 + l.val, by omega⟩ (by show b.val * 128 + l.val = 256 * n.val + (128 + l.val); omega),
    Cert.KernelIdeal.Hand.uFin_apply m c n r ⟨128 + l.val, by omega⟩ ⟨b.val * 128 + l.val, by omega⟩ (by show b.val * 128 + l.val = 256 * n.val + (128 + l.val); omega)]
  rfl

/-- The kernel's code array is the reference's. -/
theorem codes_match (c : Dev nD) (X : Vec Ideal S512x28672 .fp8e4m3) (hX : CodesAre m c X) :
    X = codes (act (proj (argX m c) (argW1 m c) (argS1 m c)) (proj (argX m c) (argW3 m c) (argS3 m c)))
      (scale (blockMax (act (proj (argX m c) (argW1 m c) (argS1 m c)) (proj (argX m c) (argW3 m c) (argS3 m c))))) := by
  funext i
  obtain ⟨r, j, rfl⟩ : ∃ (r : Fin 512) (j : Fin 28672), i = ix2 r j := ⟨i 0, i 1, eq_ix2 i⟩
  rw [ref_codes, act_rowBlock]
  have hj := j.isLt
  by_cases hl : j.val % 256 < 128
  · rw [(hX r j ⟨j.val / 256, by omega⟩ ⟨j.val % 128, by omega⟩).1 (by show j.val = 256 * (j.val / 256) + j.val % 128; omega),
      Cert.KernelIdeal.Hand.codesL_apply, left_rows m c _ r ⟨j.val / 128, by omega⟩ (by show j.val / 128 = 2 * (j.val / 256); omega)]
  · rw [(hX r j ⟨j.val / 256, by omega⟩ ⟨j.val % 128, by omega⟩).2 (by show j.val = 256 * (j.val / 256) + 128 + j.val % 128; omega),
      Cert.KernelIdeal.Hand.codesR_apply, right_rows m c _ r ⟨j.val / 128, by omega⟩ (by show j.val / 128 = 2 * (j.val / 256) + 1; omega)]

/-- The kernel's scale array is the reference's. -/
theorem scales_match (c : Dev nD) (X : Vec Ideal S512x224 .f32) (hX : ScalesAre m c X) :
    X = shapeCast _ (scale (blockMax (act (proj (argX m c) (argW1 m c) (argS1 m c)) (proj (argX m c) (argW3 m c) (argS3 m c)))))
      Cert.ReferenceIdeal.Gen.shapeCasts_S1x512x224_S512x224 := by
  funext i
  obtain ⟨r, j, rfl⟩ : ∃ (r : Fin 512) (j : Fin 224), i = ix2 r j := ⟨i 0, i 1, eq_ix2 i⟩
  refine Eq.trans ?_ (Cert.ReferenceIdeal.Hand.scaleCast_apply _ r j).symm
  rw [ref_scales, act_rowBlock]
  have hj := j.isLt
  by_cases hl : j.val % 2 = 0
  · rw [(hX r j ⟨j.val / 2, by omega⟩).1 (by show j.val = 2 * (j.val / 2); omega),
      Cert.KernelIdeal.Hand.scaleL_apply, left_rows m c _ r j (by show j.val = 2 * (j.val / 2); omega)]
  · rw [(hX r j ⟨j.val / 2, by omega⟩).2 (by show j.val = 2 * (j.val / 2) + 1; omega),
      Cert.KernelIdeal.Hand.scaleR_apply, right_rows m c _ r j (by show j.val = 2 * (j.val / 2) + 1; omega)]

end Cert.Values

end
-- ==== Proof.KernelFrame.lean ====
/- The kernel's frame, from the run of its idealization: the two programs are the same program text, at any float type. -/
module

public import proofs.«01_k».proof.Defs
public import proofs.«01_k».proof.Proof.Gen.Kernel
public import proofs.«01_k».proof.Proof.KArrays

@[expose] public section

set_option maxRecDepth 16384

noncomputable section

namespace Cert.KernelFrame

open Idealize.ShloMosaic Idealize.ShloMosaic.TcCoe Idealize.SL.Sem

section
open Cert.KernelIdeal Cert.KernelIdeal.Gen

variable {F : FTy → Type} [FloatOps F]

/-- The frame at any float type, from the run with values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2.2, h.2⟩) (Cert.KernelIdeal.Hand.run_values m ρ)

end

section
variable {F : FTy → Type} [FloatOps F]

/-- The two bodies are one program text. -/
theorem body_eq : @Cert.Kernel.cc0__body F _ _ = @Cert.KernelIdeal.cc0__body F _ _ := rfl

/-- The kernels' body tables agree at their one label. -/
theorem table_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl

/-- The whole body tables agree. -/
theorem defs_eq : Cert.Kernel.defs (F := F) = Cert.KernelIdeal.defs (F := F) := by
  unfold Cert.Kernel.defs Cert.KernelIdeal.defs
  exact congrArg (Pipeline.defs (Cert.KernelIdeal.pcfgs (F := F))) table_eq

theorem main_eq : Cert.Kernel.main (F := F) = Cert.KernelIdeal.main (F := F) := rfl

end

/-- The kernel's frame: its program is the idealization's, read at machine floats. -/
theorem frame : Cert.quiescent_Kernel (hKernel := Cert.Kernel.Gen.facts) := by
  intro m ρ _
  have h := frame_any (F := Bits) m ρ
  rw [← defs_eq, ← main_eq] at h
  exact h

end Cert.KernelFrame

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Values
public import proofs.«01_k».proof.Proof.KernelFrame
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) := fun m ρ _ =>
  Cert.KernelFrame.frame_any (F := Ideal) m ρ

theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) _⟩)
    (Cert.ReferenceIdeal.Value.run m g)

/-- The reference's activation over arguments equal to the kernel's. -/
theorem act_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = Cert.KernelIdeal.Hand.argX m c)
    (h1 : m' ((c.tc : Thread Cert.ReferenceIdeal.nD Cert.ReferenceIdeal.τ).loc Cert.ReferenceIdeal.main_arg1) = Cert.KernelIdeal.Hand.argW1 m c)
    (h2 : m' ((c.tc : Thread Cert.ReferenceIdeal.nD Cert.ReferenceIdeal.τ).loc Cert.ReferenceIdeal.main_arg2) = Cert.KernelIdeal.Hand.argS1 m c)
    (h3 : m' ((c.tc : Thread Cert.ReferenceIdeal.nD Cert.ReferenceIdeal.τ).loc Cert.ReferenceIdeal.main_arg3) = Cert.KernelIdeal.Hand.argW3 m c)
    (h4 : m' ((c.tc : Thread Cert.ReferenceIdeal.nD Cert.ReferenceIdeal.τ).loc Cert.ReferenceIdeal.main_arg4) = Cert.KernelIdeal.Hand.argS3 m c) :
    Cert.ReferenceIdeal.Hand.actOf m' c = Cert.ReferenceIdeal.Hand.act
      (Cert.ReferenceIdeal.Hand.proj (Cert.KernelIdeal.Hand.argX m c) (Cert.KernelIdeal.Hand.argW1 m c) (Cert.KernelIdeal.Hand.argS1 m c))
      (Cert.ReferenceIdeal.Hand.proj (Cert.KernelIdeal.Hand.argX m c) (Cert.KernelIdeal.Hand.argW3 m c) (Cert.KernelIdeal.Hand.argS3 m c)) := by
  unfold Cert.ReferenceIdeal.Hand.actOf
  rw [h0, h1, h2, h3, h4]

/-- Both results, array against array. -/
theorem values : Cert.algebraic_KernelIdeal_ReferenceIdeal (hKernelIdeal := Cert.KernelIdeal.Gen.facts) (hReferenceIdeal := Cert.ReferenceIdeal.Gen.facts) := by
  intro m g m' g' _ ha
  refine ⟨fun c => Cert.ReferenceIdeal.Value.res_main_v70 m' c, fun c => Cert.ReferenceIdeal.Value.res_main_v71 m' c, ?_, Cert.ReferenceIdeal.Value.run m' g'⟩
  refine (θ_run Cert.KernelIdeal.defs _ _).mono (fun r h c => ?_) (Cert.KernelIdeal.Hand.run_values m g)
  obtain ⟨h0, h1, h2, h3, h4⟩ := ha c
  have hact := act_args m m' c h0 h1 h2 h3 h4
  refine ⟨?_, ?_, (h.1 c).2.2⟩
  · refine (Cert.Values.codes_match m c _ (h.1 c).1).trans ?_
    rw [← hact]
    exact (Cert.ReferenceIdeal.Hand.codes_eq m' c).symm
  · refine (Cert.Values.scales_match m c _ (h.1 c).2.1).trans ?_
    rw [← hact]
    exact (Cert.ReferenceIdeal.Hand.scales_eq m' c).symm

theorem claim : Cert.Claim := ⟨Cert.Kernel.Gen.facts, Cert.KernelIdeal.Gen.facts, Cert.ReferenceIdeal.Gen.facts,
  Cert.KernelFrame.frame, frame_ideal, frame_reference, trivial, values⟩

end Cert.Proof

end
